-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![6144, 768]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S6144x1536 : Shape := ⟨2, ![6144, 1536]⟩
abbrev S4x1536x768 : Shape := ⟨3, ![4, 1536, 768]⟩
abbrev S2x1536x1536 : Shape := ⟨3, ![2, 1536, 1536]⟩
abbrev S6 : Shape := ⟨1, ![6]⟩
abbrev S4 : Shape := ⟨1, ![4]⟩
abbrev S1x1536x768 : Shape := ⟨3, ![1, 1536, 768]⟩
abbrev S_ : Shape := ⟨0, ![]⟩
abbrev S1 : Shape := ⟨1, ![1]⟩
abbrev S1x768x768 : Shape := ⟨3, ![1, 768, 768]⟩
abbrev S768x768 : Shape := ⟨2, ![768, 768]⟩
abbrev S1536x1536 : Shape := ⟨2, ![1536, 1536]⟩
abbrev S1x1536x1536 : Shape := ⟨3, ![1, 1536, 1536]⟩
abbrev S1x768x1536 : Shape := ⟨3, ![1, 768, 1536]⟩

abbrev nBuf : Space → Nat
  | .hbm => 3
  | .vmem => 4
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S6144x1536, .bf16⟩
  | .local _ .vmem, ⟨0, _⟩ => ⟨S1536x768, .bf16⟩
  | .local _ .vmem, ⟨1, _⟩ => ⟨S768x1536, .bf16⟩
  | .local _ .vmem, ⟨2, _⟩ => ⟨S4x1536x768, .bf16⟩
  | .local _ .vmem, ⟨3, _⟩ => ⟨S2x1536x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v33 : BitVec 32 := Scalar.muli v13 c1_i32_20
  let v34 : BitVec 32 := Scalar.addi c0_i32_21 v33
  v34.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v35 : BitVec 32 := Scalar.muli v24 c1_i32_23
  let v36 : BitVec 32 := Scalar.addi c0_i32_24 v35
  v36.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v37 : BitVec 32 := Scalar.muli v24 c1_i32_29
  let v38 : BitVec 32 := Scalar.addi c0_i32_30 v37
  v38.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v47 : BitVec 32 := Scalar.muli v13 c1_i32_39
  let v48 : BitVec 32 := Scalar.addi c0_i32_40 v47
  v48.toNat
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_48 : BitVec 32 := 1#32
  let v57 : BitVec 32 := Scalar.muli v24 c1_i32_48
  let v58 : BitVec 32 := Scalar.addi c0_i32_49 v57
  v58.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_57 : BitVec 32 := 1#32
  let v67 : BitVec 32 := Scalar.muli v13 c1_i32_57
  let v68 : BitVec 32 := Scalar.addi c0_i32_58 v67
  v68.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1536_i32 : BitVec 32 := 1536#32
  let v84 : BitVec 32 := Scalar.muli v2 c1536_i32
  let c0_i32_71 : BitVec 32 := 0#32
  ![v84.toNat, 0]
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_88 : BitVec 32 := 1#32
  let v98 : BitVec 32 := Scalar.muli v24 c1_i32_88
  let v99 : BitVec 32 := Scalar.addi c0_i32_89 v98
  v99.toNat
def k0_dev8 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_107 : BitVec 32 := 1#32
  let v116 : BitVec 32 := Scalar.muli v13 c1_i32_107
  let v117 : BitVec 32 := Scalar.addi c0_i32_108 v116
  v117.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1536_i32_129 : BitVec 32 := 1536#32
  let v141 : BitVec 32 := Scalar.muli v13 c1536_i32_129
  let c0_i32_132 : BitVec 32 := 0#32
  ![v141.toNat, 0]
def k0_off3 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1536_i32_156 : BitVec 32 := 1536#32
  let v167 : BitVec 32 := Scalar.muli v24 c1536_i32_156
  let c0_i32_159 : BitVec 32 := 0#32
  ![v167.toNat, 0]
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S6144x768 : Shape := ⟨2, ![6144, 768]⟩
abbrev S768x1536 : Shape := ⟨2, ![768, 1536]⟩
abbrev S6144x1536 : Shape := ⟨2, ![6144, 1536]⟩

abbrev nBuf : Space → Nat
  | .hbm => 4
  | .vmem => 0
  | .smem => 0
  | _ => 0

abbrev bufTy : (tb : Table) → Fin (tcTables nBuf tb) → BufTy
  | .hbm, ⟨0, _⟩ => ⟨S6144x768, .bf16⟩
  | .hbm, ⟨1, _⟩ => ⟨S768x1536, .bf16⟩
  | .hbm, ⟨2, _⟩ => ⟨S6144x1536, .f32⟩
  | .hbm, ⟨3, _⟩ => ⟨S6144x1536, .bf16⟩
  | _, _ => ⟨S6144x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Ring.lean ====
/-
The ring of four devices and the memory the kernel moves between them.

Every device holds one row block of `A` and all of `B`. The kernel's communication buffer has four slots of 1536
rows, each handled as two halves (rows 0 to 767 and 768 to 1535). Slot 0 holds a device's own block, slot 1 its
left neighbour's, slot 2 its right neighbour's, slot 3 the block of the device two steps away. Six remote copies per
device fill slots 1 to 3 of the neighbours. This module names the devices, the views and the contents, and
proves what one copy leaves in its destination.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise
public import Idealize.ShloMosaic.Lib.ValueLayout
public import Idealize.ShloMosaic.Lib.Tactic

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

/-! ## The ring -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The ring's rotation. -/
def ring : Dev nD ≃ Dev nD := ⟨nxt, prv, prv_nxt, nxt_prv⟩

/-- The device numbers the kernel computes are the neighbours. -/
theorem dev1_eq : ∀ c : Dev nD, (⟨k0_dev1 c, k0_dev1_lt c⟩ : Dev nD) = prv c := by decide +kernel
theorem dev2_eq : ∀ c : Dev nD, (⟨k0_dev2 c, k0_dev2_lt c⟩ : Dev nD) = nxt c := by decide +kernel
theorem dev3_eq : ∀ c : Dev nD, (⟨k0_dev3 c, k0_dev3_lt c⟩ : Dev nD) = nxt c := by decide +kernel
theorem dev4_eq : ∀ c : Dev nD, (⟨k0_dev4 c, k0_dev4_lt c⟩ : Dev nD) = prv c := by decide +kernel
theorem dev5_eq : ∀ c : Dev nD, (⟨k0_dev5 c, k0_dev5_lt c⟩ : Dev nD) = nxt c := by decide +kernel
theorem dev6_eq : ∀ c : Dev nD, (⟨k0_dev6 c, k0_dev6_lt c⟩ : Dev nD) = prv c := by decide +kernel
theorem dev7_eq : ∀ c : Dev nD, (⟨k0_dev7 c, k0_dev7_lt c⟩ : Dev nD) = nxt c := by decide +kernel
theorem dev8_eq : ∀ c : Dev nD, (⟨k0_dev8 c, k0_dev8_lt c⟩ : Dev nD) = prv c := by decide +kernel

/-- The device whose block slot `s` of device `c` holds at the end. -/
def owner (c : Dev nD) (s : Fin 4) : Dev nD := match s with
  | 0 => c | 1 => prv c | 2 => nxt c | 3 => nxt (nxt c)

/-- The row offsets of the four blocks of the result a device writes, in program order. -/
theorem off1_eq : ∀ c : Dev nD, k0_off1 c = ![1536 * (owner c 0).val, 0] := by decide +kernel
theorem off2_eq : ∀ c : Dev nD, k0_off2 c = ![1536 * (owner c 1).val, 0] := by decide +kernel
theorem off3_eq : ∀ c : Dev nD, k0_off3 c 1#32 = ![1536 * (owner c 2).val, 0] := by decide +kernel
theorem off4_eq : ∀ c : Dev nD, k0_off3 c 2#32 = ![1536 * (owner c 3).val, 0] := by decide +kernel

/-! ## The views -/

/-- The buffers of the kernel, whole. -/
abbrev aM : Memref sig .tc .vmem S1536x768 .bf16 := Memref.whole cc0_stg0_0
abbrev bM : Memref sig .tc .vmem S768x1536 .bf16 := Memref.whole cc0_stg1_0
abbrev oM : Memref sig .tc .hbm S6144x1536 .bf16 := Memref.whole main_v1
abbrev cM : Memref sig .tc .vmem S4x1536x768 .bf16 := Memref.whole cc0_scratch0
abbrev tM : Memref sig .tc .vmem S2x1536x1536 .bf16 := Memref.whole cc0_scratch1

theorem half_inb : ∀ (s : Fin 4) (h : Fin 2) (a : Fin 3),
    (![s.val, 768 * h.val, 0] : Fin 3 → ℕ) a + S1x768x768.size a ≤ S4x1536x768.size a := by decide
theorem slot_inb : ∀ (s : Fin 4) (a : Fin 3),
    (![s.val, 0, 0] : Fin 3 → ℕ) a + S1x1536x768.size a ≤ S4x1536x768.size a := by decide
theorem stage_inb : ∀ (k : Fin 2) (a : Fin 3),
    (![k.val, 0, 0] : Fin 3 → ℕ) a + S1x1536x1536.size a ≤ S2x1536x1536.size a := by decide
theorem stageHalf_inb : ∀ (h : Fin 2) (a : Fin 3),
    (![1, 768 * h.val, 0] : Fin 3 → ℕ) a + S1x768x1536.size a ≤ S2x1536x1536.size a := by decide
theorem out_inb : ∀ (d : Dev nD) (a : Fin 2),
    (![1536 * d.val, 0] : Fin 2 → ℕ) a + S1536x1536.size a ≤ S6144x1536.size a := by decide

/-- Half `h` of slot `s` of the communication buffer, as a rectangle; -/
abbrev halfR (s : Fin 4) (h : Fin 2) : Rect S4x1536x768 :=
  Rect.unit (s := S4x1536x768) ![s.val, 768 * h.val, 0] S1x768x768.size (half_inb s h)
/-- and as the two-dimensional view a copy reads or writes. -/
def halfM (s : Fin 4) (h : Fin 2) : Memref sig .tc .vmem S768x768 .bf16 :=
  (cM.slice (halfR s h) (fun _ => rfl)).squeeze S768x768 squeezes_S1x768x768_S768x768
/-- Slot `s` of the communication buffer. -/
abbrev slotR (s : Fin 4) : Rect S4x1536x768 :=
  Rect.unit (s := S4x1536x768) ![s.val, 0, 0] S1x1536x768.size (slot_inb s)
/-- Slot `k` of the staging buffer for results, as a rectangle; -/
abbrev stageR (k : Fin 2) : Rect S2x1536x1536 :=
  Rect.unit (s := S2x1536x1536) ![k.val, 0, 0] S1x1536x1536.size (stage_inb k)
/-- half `h` of its slot 1; -/
abbrev stageHalfR (h : Fin 2) : Rect S2x1536x1536 :=
  Rect.unit (s := S2x1536x1536) ![1, 768 * h.val, 0] S1x768x1536.size (stageHalf_inb h)
/-- and slot `k` as the view a copy to the result reads. -/
def stageM (k : Fin 2) : Memref sig .tc .vmem S1536x1536 .bf16 :=
  (tM.slice (stageR k) (fun _ => rfl)).squeeze S1536x1536 squeezes_S1x1536x1536_S1536x1536
/-- The row block of the result that device `d`'s block of `A` makes. -/
abbrev outR (d : Dev nD) : Rect S6144x1536 :=
  Rect.unit (s := S6144x1536) ![1536 * d.val, 0] S1536x1536.size (out_inb d)
def outM (d : Dev nD) : Memref sig .tc .hbm S1536x1536 .bf16 := oM.slice (outR d) (fun _ => rfl)

theorem halfM_set (s : Fin 4) (h : Fin 2) : (halfM s h).view.set = (halfR s h).set := by
  unfold halfM; rw [Memref.set_view_squeeze]; exact View.set_slice_whole _ _
theorem stageM_set (k : Fin 2) : (stageM k).view.set = (stageR k).set := by
  unfold stageM; rw [Memref.set_view_squeeze]; exact View.set_slice_whole _ _
theorem outM_set (d : Dev nD) : (outM d).view.set = (outR d).set := View.set_slice_whole _ _

/-- Membership in a half slot, by coordinates. -/
theorem mem_half {s : Fin 4} {h : Fin 2} {i : S4x1536x768.Idx} :
    i ∈ (halfR s h).set ↔ (i 0).val = s.val ∧ 768 * h.val ≤ (i 1).val ∧ (i 1).val < 768 * h.val + 768 := by
  have h2 : (i 2).val < 768 := (i 2).isLt
  rw [Rect.mem_set_unit, Fin.forall_fin_succ, Fin.forall_fin_succ, Fin.forall_fin_succ]
  show (s.val ≤ (i 0).val ∧ (i 0).val < s.val + 1) ∧ (768 * h.val ≤ (i 1).val ∧ (i 1).val < 768 * h.val + 768)
    ∧ (0 ≤ (i 2).val ∧ (i 2).val < 0 + 768) ∧ _ ↔ _
  constructor
  · rintro ⟨h0, h1, _⟩; exact ⟨by omega, h1⟩
  · rintro ⟨h0, h1⟩; exact ⟨by omega, h1, by omega, fun a => a.elim0⟩

theorem mem_slot {s : Fin 4} {i : S4x1536x768.Idx} : i ∈ (slotR s).set ↔ (i 0).val = s.val := by
  have h1 : (i 1).val < 1536 := (i 1).isLt
  have h2 : (i 2).val < 768 := (i 2).isLt
  rw [Rect.mem_set_unit, Fin.forall_fin_succ, Fin.forall_fin_succ, Fin.forall_fin_succ]
  show (s.val ≤ (i 0).val ∧ (i 0).val < s.val + 1) ∧ (0 ≤ (i 1).val ∧ (i 1).val < 0 + 1536)
    ∧ (0 ≤ (i 2).val ∧ (i 2).val < 0 + 768) ∧ _ ↔ _
  constructor
  · rintro ⟨h0, _⟩; omega
  · intro h0; exact ⟨by omega, by omega, by omega, fun a => a.elim0⟩

theorem mem_stage {k : Fin 2} {i : S2x1536x1536.Idx} : i ∈ (stageR k).set ↔ (i 0).val = k.val := by
  have h1 : (i 1).val < 1536 := (i 1).isLt
  have h2 : (i 2).val < 1536 := (i 2).isLt
  rw [Rect.mem_set_unit, Fin.forall_fin_succ, Fin.forall_fin_succ, Fin.forall_fin_succ]
  show (k.val ≤ (i 0).val ∧ (i 0).val < k.val + 1) ∧ (0 ≤ (i 1).val ∧ (i 1).val < 0 + 1536)
    ∧ (0 ≤ (i 2).val ∧ (i 2).val < 0 + 1536) ∧ _ ↔ _
  constructor
  · rintro ⟨h0, _⟩; omega
  · intro h0; exact ⟨by omega, by omega, by omega, fun a => a.elim0⟩

theorem mem_stageHalf {h : Fin 2} {i : S2x1536x1536.Idx} :
    i ∈ (stageHalfR h).set ↔ (i 0).val = 1 ∧ 768 * h.val ≤ (i 1).val ∧ (i 1).val < 768 * h.val + 768 := by
  have h2 : (i 2).val < 1536 := (i 2).isLt
  rw [Rect.mem_set_unit, Fin.forall_fin_succ, Fin.forall_fin_succ, Fin.forall_fin_succ]
  show (1 ≤ (i 0).val ∧ (i 0).val < 1 + 1) ∧ (768 * h.val ≤ (i 1).val ∧ (i 1).val < 768 * h.val + 768)
    ∧ (0 ≤ (i 2).val ∧ (i 2).val < 0 + 1536) ∧ _ ↔ _
  constructor
  · rintro ⟨h0, h1, _⟩; exact ⟨by omega, h1⟩
  · rintro ⟨h0, h1⟩; exact ⟨by omega, h1, by omega, fun a => a.elim0⟩

theorem mem_out {d : Dev nD} {i : S6144x1536.Idx} :
    i ∈ (outR d).set ↔ 1536 * d.val ≤ (i 0).val ∧ (i 0).val < 1536 * d.val + 1536 := by
  have h1 : (i 1).val < 1536 := (i 1).isLt
  rw [Rect.mem_set_unit, Fin.forall_fin_succ, Fin.forall_fin_succ]
  show (1536 * d.val ≤ (i 0).val ∧ (i 0).val < 1536 * d.val + 1536) ∧ (0 ≤ (i 1).val ∧ (i 1).val < 0 + 1536) ∧ _ ↔ _
  constructor
  · rintro ⟨h0, _⟩; exact h0
  · intro h0; exact ⟨h0, by omega, fun a => a.elim0⟩

/-- A slot is its two halves, which are disjoint. -/
theorem slot_halves (s : Fin 4) : (slotR s).set = (halfR s 0).set ∪ (halfR s 1).set := by
  ext i
  have h1 : (i 1).val < 1536 := (i 1).isLt
  rw [Finset.mem_union, mem_slot, mem_half, mem_half]
  show _ ↔ (_ ∧ 768 * 0 ≤ _ ∧ _ < 768 * 0 + 768) ∨ (_ ∧ 768 * 1 ≤ _ ∧ _ < 768 * 1 + 768)
  omega
theorem halves_disjoint (s : Fin 4) : Disjoint (halfR s 0).set (halfR s 1).set := by
  rw [Finset.disjoint_left]; intro i hi hj
  rw [mem_half] at hi hj
  have h0 : (i 1).val < 768 * 0 + 768 := hi.2.2
  have h1 : 768 * 1 ≤ (i 1).val := hj.2.1
  omega

/-- The four slots are the communication buffer. -/
theorem slots_disjoint : ∀ s s' : Fin 4, s ≠ s' → Disjoint (slotR s).set (slotR s').set := by
  intro s s' hne
  rw [Finset.disjoint_left]; intro i hi hj
  rw [mem_slot] at hi hj
  exact hne (Fin.ext (hi.symm.trans hj))
theorem slots_cover : (Finset.univ : Finset (Fin 4)).biUnion (fun s => (slotR s).set) = Finset.univ := by
  ext i
  simp only [Finset.mem_biUnion, Finset.mem_univ, true_and, iff_true]
  exact ⟨⟨(i 0).val, (i 0).isLt⟩, mem_slot.mpr rfl⟩

/-- The two slots are the staging buffer. -/
theorem stages_disjoint : ∀ k k' : Fin 2, k ≠ k' → Disjoint (stageR k).set (stageR k').set := by
  intro s s' hne
  rw [Finset.disjoint_left]; intro i hi hj
  rw [mem_stage] at hi hj
  exact hne (Fin.ext (hi.symm.trans hj))
theorem stages_cover : (Finset.univ : Finset (Fin 2)).biUnion (fun k => (stageR k).set) = Finset.univ := by
  ext i
  simp only [Finset.mem_biUnion, Finset.mem_univ, true_and, iff_true]
  exact ⟨⟨(i 0).val, (i 0).isLt⟩, mem_stage.mpr rfl⟩

/-- The four row blocks, numbered by the slot whose contents make them, are the result. -/
theorem owner_inj : ∀ (c : Dev nD) (s s' : Fin 4), owner c s = owner c s' → s = s' := by decide
theorem owner_surj : ∀ (c d : Dev nD), ∃ s, owner c s = d := by decide
theorem outs_disjoint (c : Dev nD) : ∀ s s' : Fin 4, s ≠ s' → Disjoint (outR (owner c s)).set (outR (owner c s')).set := by
  intro s s' hne
  rw [Finset.disjoint_left]; intro i hi hj
  rw [mem_out] at hi hj
  exact hne (owner_inj c s s' (Fin.ext (by omega)))
theorem outs_cover (c : Dev nD) : (Finset.univ : Finset (Fin 4)).biUnion (fun s => (outR (owner c s)).set) = Finset.univ := by
  ext i
  simp only [Finset.mem_biUnion, Finset.mem_univ, true_and, iff_true]
  have h0 : (i 0).val < 6144 := (i 0).isLt
  obtain ⟨s, hs⟩ := owner_surj c ⟨(i 0).val / 1536, by show _ < 4; omega⟩
  refine ⟨s, ?_⟩
  rw [hs, mem_out]
  show 1536 * ((i 0).val / 1536) ≤ _ ∧ _ < 1536 * ((i 0).val / 1536) + 1536
  omega

/-! ## The six copies a device starts -/

/-- Copy `i`: the slot it reads; -/
def sslot (i : Fin 6) : Fin 4 := match i with | 0 => 0 | 1 => 0 | 2 => 0 | 3 => 0 | 4 => 1 | 5 => 2
/-- the slot it fills; -/
def dslot (i : Fin 6) : Fin 4 := match i with | 0 => 1 | 1 => 1 | 2 => 2 | 3 => 2 | 4 => 3 | 5 => 3
/-- the half of both; -/
def half (i : Fin 6) : Fin 2 := match i with | 0 => 0 | 1 => 1 | 2 => 1 | 3 => 0 | 4 => 0 | 5 => 1
/-- the device it goes to; -/
def dest (i : Fin 6) (c : Dev nD) : Dev nD := match i with | 0 => nxt c | 1 => nxt c | 2 => prv c | 3 => prv c | 4 => nxt c | 5 => prv c
/-- and the device it comes from. -/
def orig (i : Fin 6) (c : Dev nD) : Dev nD := match i with | 0 => prv c | 1 => prv c | 2 => nxt c | 3 => nxt c | 4 => prv c | 5 => nxt c

theorem dest_orig : ∀ (i : Fin 6) (c : Dev nD), dest i (orig i c) = c := by decide
theorem orig_dest : ∀ (i : Fin 6) (c : Dev nD), orig i (dest i c) = c := by decide
/-- A copy's destination slot is to hold the block its source slot holds. -/
theorem owner_dest : ∀ (i : Fin 6) (c : Dev nD), owner (dest i c) (dslot i) = owner c (sslot i) := by decide

/-! ## The contents -/

section Contents
variable (m : (ℓ : Loc nD τ sig) → Buf (Elt F) ℓ)

/-- Device `c`'s block of `A` and its copy of `B`, as staged. -/
def blkA (c : Dev nD) : (cc0_stg0_0 : Ref sig .tc).ty.Contents (Elt F) :=
  (win0_0.blk (0 : Fin 1)).view.read (Elt F) (m ((c : Thread nD τ).loc main_arg0))
def blkB (c : Dev nD) : (cc0_stg1_0 : Ref sig .tc).ty.Contents (Elt F) :=
  (win0_1.blk (0 : Fin 1)).view.read (Elt F) (m ((c : Thread nD τ).loc main_arg1))

/-- The communication buffer of device `c` when all has arrived. -/
def commF (c : Dev nD) : (cc0_scratch0 : Ref sig .tc).ty.Contents (Elt F) :=
  fun i : S4x1536x768.Idx => blkA m (owner c ⟨(i 0).val, (i 0).isLt⟩) (ix2 (n0 := 1536) (n1 := 768) (i 1) (i 2))

/-- Two elements of the communication buffers at the same place of slots that hold the same block are equal. -/
theorem commF_congr {c c' : Dev nD} {i i' : S4x1536x768.Idx} {s s' : Fin 4} (h0 : (i 0).val = s.val) (h0' : (i' 0).val = s'.val)
    (ho : owner c s = owner c' s') (h1 : (i 1).val = (i' 1).val) (h2 : (i 2).val = (i' 2).val) : commF m c i = commF m c' i' := by
  unfold commF
  have e : (⟨(i 0).val, (i 0).isLt⟩ : Fin 4) = s := Fin.ext h0
  have e' : (⟨(i' 0).val, (i' 0).isLt⟩ : Fin 4) = s' := Fin.ext h0'
  have a1 : i 1 = i' 1 := Fin.ext h1
  have a2 : i 2 = i' 2 := Fin.ext h2
  rw [show owner c ⟨(i 0).val, (i 0).isLt⟩ = owner c' ⟨(i' 0).val, (i' 0).isLt⟩ by rw [e, e', ho], a1, a2]

end Contents

/-- An index of a half slot's view names the element with the half's rows shifted. -/
theorem halfM_emb (s : Fin 4) (h : Fin 2) (x : S768x768.Idx) :
    ((halfM s h).view.emb x (0 : Fin 3)).val = s.val ∧ ((halfM s h).view.emb x (1 : Fin 3)).val = 768 * h.val + (x 0).val
      ∧ ((halfM s h).view.emb x (2 : Fin 3)).val = (x 1).val := by
  have e : (Shape.reshapeEquiv (squeezes_S1x768x768_S768x768.numel_eq)) x = ix3 (⟨0, Nat.one_pos⟩ : Fin 1) (x 0) (x 1) := by
    conv_lhs => rw [eq_ix2 x]
    exact ValueIdx.reshapeEquiv_ix2_1ab _ _ _
  have e' : (halfM s h).view.emb x = (halfR s h).emb (ix3 (⟨0, Nat.one_pos⟩ : Fin 1) (x 0) (x 1)) :=
    congrArg (halfR s h).emb e
  rw [e']
  refine ⟨?_, ?_, ?_⟩
  · show s.val + 1 * 0 = _; omega
  · show 768 * h.val + 1 * (x 0).val = _; omega
  · show 0 + 1 * (x 1).val = _; omega

/-- An index of a staging slot's view names the element of that slot at the same place. -/
theorem stageM_emb (k : Fin 2) (x : S1536x1536.Idx) :
    (stageM k).view.emb x = (stageR k).emb (ix3 (⟨0, Nat.one_pos⟩ : Fin 1) (x 0) (x 1)) := by
  have e : (Shape.reshapeEquiv (squeezes_S1x1536x1536_S1536x1536.numel_eq)) x = ix3 (⟨0, Nat.one_pos⟩ : Fin 1) (x 0) (x 1) := by
    conv_lhs => rw [eq_ix2 x]
    exact ValueIdx.reshapeEquiv_ix2_1ab _ _ _
  exact congrArg (stageR k).emb e

/-- Likewise a row block of the result. -/
theorem outM_emb (d : Dev nD) (x : S1536x1536.Idx) :
    ((outM d).view.emb x (0 : Fin 2)).val = 1536 * d.val + (x 0).val ∧ ((outM d).view.emb x (1 : Fin 2)).val = (x 1).val := by
  refine ⟨?_, ?_⟩
  · show 1536 * d.val + 1 * (x 0).val = _; omega
  · show 0 + 1 * (x 1).val = _; omega

section Contents
variable (m : (ℓ : Loc nD τ sig) → Buf (Elt F) ℓ)

/-- What copy `i` of device `c` leaves in its destination, wherever its source holds what it is to hold: what the
    destination is to hold. -/
theorem landing (i : Fin 6) (c : Dev nD) (fd : (cc0_scratch0 : Ref sig .tc).ty.Contents (Elt F))
    (j : S4x1536x768.Idx) (hj : j ∈ (halfM (dslot i) (half i)).view.set) :
    (halfM (dslot i) (half i)).view.write (Elt F) fd ((halfM (sslot i) (half i)).view.read (Elt F) (commF m c)) Finset.univ j
      = commF m (dest i c) j := by
  obtain ⟨x, -, rfl⟩ := Finset.mem_map.mp hj
  refine (View.write_emb_of_mem (v := (halfM (dslot i) (half i)).view) (Val := Elt F) fd _ (Finset.mem_univ x)).trans ?_
  obtain ⟨a0, a1, a2⟩ := halfM_emb (dslot i) (half i) x
  obtain ⟨b0, b1, b2⟩ := halfM_emb (sslot i) (half i) x
  exact commF_congr m b0 a0 (owner_dest i c).symm (b1.trans a1.symm) (b2.trans a2.symm)

/-- Slot `s` of a device's communication buffer, as loaded: the block of the slot's owner. -/
def slotV (c : Dev nD) (s : Fin 4) : Vec F S1x1536x768 .bf16 :=
  fun y : S1x1536x768.Idx => blkA m (owner c s) (ix2 (n0 := 1536) (n1 := 768) (y 1) (y 2))
/-- Half `h` of slot 3, as loaded. -/
def halfV (c : Dev nD) (h : Fin 2) : Vec F S1x768x768 .bf16 :=
  fun y : S1x768x768.Idx => blkA m (owner c 3) (ix2 (n0 := 1536) (n1 := 768)
    ⟨768 * h.val + (y 1).val, by have h1 : (y 1).val < 768 := (y 1).isLt; have := h.isLt; omega⟩ (y 2))

theorem read_slot (c : Dev nD) (s : Fin 4) :
    cM.view.readAt (Elt F) (slotR s).toLoadRect (commF m c) = slotV m c s := by
  funext y
  have h0 : (y 0).val < 1 := (y 0).isLt
  show commF m c ((slotR s).emb y) = _
  unfold commF slotV
  have e0 : (⟨((slotR s).emb y 0).val, ((slotR s).emb y 0).isLt⟩ : Fin 4) = s :=
    Fin.ext (by show s.val + 1 * (y 0).val = s.val; omega)
  have e1 : (slotR s).emb y 1 = y 1 := Fin.ext (by show 0 + 1 * (y 1).val = (y 1).val; omega)
  have e2 : (slotR s).emb y 2 = y 2 := Fin.ext (by show 0 + 1 * (y 2).val = (y 2).val; omega)
  rw [e0, e1, e2]

theorem read_half (c : Dev nD) (h : Fin 2) :
    cM.view.readAt (Elt F) (halfR 3 h).toLoadRect (commF m c) = halfV m c h := by
  funext y
  have h0 : (y 0).val < 1 := (y 0).isLt
  show commF m c ((halfR 3 h).emb y) = _
  unfold commF halfV
  have e0 : (⟨((halfR 3 h).emb y 0).val, ((halfR 3 h).emb y 0).isLt⟩ : Fin 4) = 3 :=
    Fin.ext (by show 3 + 1 * (y 0).val = 3; omega)
  have e1 : (halfR 3 h).emb y 1 = (⟨768 * h.val + (y 1).val, by have h1 : (y 1).val < 768 := (y 1).isLt; have := h.isLt; omega⟩ : Fin 1536) :=
    Fin.ext (by show 768 * h.val + 1 * (y 1).val = 768 * h.val + (y 1).val; omega)
  have e2 : (halfR 3 h).emb y 2 = y 2 := Fin.ext (by show 0 + 1 * (y 2).val = (y 2).val; omega)
  rw [e0, e1, e2]

theorem read_a (f : (cc0_stg0_0 : Ref sig .tc).ty.Contents (Elt F)) (p) :
    aM.view.readAt (Elt F) (Rect.unit (s := S1536x768) ![0, 0] S1536x768.size p).toLoadRect f = f :=
  Memref.readAt_unit_zero (Elt F) cc0_stg0_0 (funext fun a => by fin_cases a <;> rfl) _ f
theorem read_b (f : (cc0_stg1_0 : Ref sig .tc).ty.Contents (Elt F)) (p) :
    bM.view.readAt (Elt F) (Rect.unit (s := S768x1536) ![0, 0] S768x1536.size p).toLoadRect f = f :=
  Memref.readAt_unit_zero (Elt F) cc0_stg1_0 (funext fun a => by fin_cases a <;> rfl) _ f

variable [FloatOps F]

/-- The store of a device's own block fills slot 0 as it is to be. -/
theorem write_slot0 (c : Dev nD) (f : (cc0_scratch0 : Ref sig .tc).ty.Contents (Elt F)) (j : S4x1536x768.Idx) (hj : j ∈ (slotR 0).set) :
    (cM.access (slotR 0) : View sig .tc _ _ _).write (Elt F) f (k0_pay1 (blkA m c)) Finset.univ j = commF m c j := by
  rw [← Rect.map_emb_univ] at hj
  obtain ⟨y, -, rfl⟩ := Finset.mem_map.mp hj
  refine (View.write_emb_of_mem (v := (cM.access (slotR 0) : View sig .tc _ _ _)) (Val := Elt F) f _ (Finset.mem_univ y)).trans ?_
  have hr := congrFun (read_slot m c 0) y
  refine Eq.trans ?_ hr.symm
  show k0_pay1 (blkA m c) y = blkA m c (ix2 (n0 := 1536) (n1 := 768) (y 1) (y 2))
  pointwise [k0_pay1]

/-- The product of a row block and `B` as the kernel makes it in one piece; -/
def prodV (a : Vec F S1x1536x768 .bf16) (b : Vec F S768x1536 .bf16) : FVec F S1x1536x1536 .bf16 := k0_pay3 (k0_pay2 b) a
/-- and that of half a block. -/
def prodH (a : Vec F S1x768x768 .bf16) (b : Vec F S768x1536 .bf16) : FVec F S1x768x1536 .bf16 := k0_pay6 (k0_pay2 b) a

/-- Row block `s` of the result (numbered by the slot it is made from): slots 0 to 2 in one piece, slot 3 half by half. -/
def resV (c : Dev nD) (s : Fin 4) : Vec F S1536x1536 .bf16 :=
  if s = 3 then fun x : S1536x1536.Idx =>
    if h : (x 0).val < 768 then prodH (halfV m c 0) (blkB m c) (ix3 (n0 := 1) (n1 := 768) (n2 := 1536) 0 ⟨(x 0).val, h⟩ (x 1))
    else prodH (halfV m c 1) (blkB m c) (ix3 (n0 := 1) (n1 := 768) (n2 := 1536) 0
      ⟨(x 0).val - 768, by have h1 : (x 0).val < 1536 := (x 0).isLt; omega⟩ (x 1))
  else fun x : S1536x1536.Idx => prodV (slotV m c s) (blkB m c) (ix3 (n0 := 1) (n1 := 1536) (n2 := 1536) 0 (x 0) (x 1))

/-- The slot of device `c` that holds device `d`'s block. -/
def slotOf (c d : Dev nD) : Fin 4 := if d = c then 0 else if d = prv c then 1 else if d = nxt c then 2 else 3
theorem slotOf_owner : ∀ (c : Dev nD) (s : Fin 4), slotOf c (owner c s) = s := by decide
theorem owner_slotOf : ∀ (c d : Dev nD), owner c (slotOf c d) = d := by decide

/-- The result of device `c` when all is written. -/
def outF (c : Dev nD) : (main_v1 : Ref sig .tc).ty.Contents (Elt F) :=
  fun i : S6144x1536.Idx => resV m c (slotOf c ⟨(i 0).val / 1536, by have h0 : (i 0).val < 6144 := (i 0).isLt; show _ < 4; omega⟩)
    (ix2 (n0 := 1536) (n1 := 1536) ⟨(i 0).val % 1536, Nat.mod_lt _ (by decide)⟩ (i 1))

theorem read_stageM (k : Fin 2) (g : (cc0_scratch1 : Ref sig .tc).ty.Contents (Elt F)) (x : S1536x1536.Idx) :
    (stageM k).view.read (Elt F) g x = g ((stageR k).emb (ix3 (⟨0, Nat.one_pos⟩ : Fin 1) (x 0) (x 1))) :=
  congrArg g (stageM_emb k x)

/-- A stored product is what the staging slot's view reads. -/
theorem read_stage (k : Fin 2) (f : (cc0_scratch1 : Ref sig .tc).ty.Contents (Elt F)) (w : Vec F S1x1536x1536 .bf16) (x : S1536x1536.Idx) :
    (stageM k).view.read (Elt F) ((tM.access (stageR k) : View sig .tc _ _ _).write (Elt F) f w Finset.univ) x
      = w (ix3 (n0 := 1) (n1 := 1536) (n2 := 1536) 0 (x 0) (x 1)) := by
  refine (read_stageM k _ x).trans ?_
  exact View.write_emb_of_mem (v := (tM.access (stageR k) : View sig .tc _ _ _)) (Val := Elt F) f w (Finset.mem_univ _)

/-- The two half products stored one after the other likewise. -/
theorem read_stage_halves (f : (cc0_scratch1 : Ref sig .tc).ty.Contents (Elt F)) (w0 w1 : Vec F S1x768x1536 .bf16) (x : S1536x1536.Idx) :
    (stageM 1).view.read (Elt F) ((tM.access (stageHalfR 1) : View sig .tc _ _ _).write (Elt F)
        ((tM.access (stageHalfR 0) : View sig .tc _ _ _).write (Elt F) f w0 Finset.univ) w1 Finset.univ) x
      = if h : (x 0).val < 768 then w0 (ix3 (n0 := 1) (n1 := 768) (n2 := 1536) 0 ⟨(x 0).val, h⟩ (x 1))
        else w1 (ix3 (n0 := 1) (n1 := 768) (n2 := 1536) 0 ⟨(x 0).val - 768, by have h1 : (x 0).val < 1536 := (x 0).isLt; omega⟩ (x 1)) := by
  have hx : (x 0).val < 1536 := (x 0).isLt
  refine (read_stageM 1 _ x).trans ?_
  split
  · next h =>
    have hn : (stageR 1).emb (ix3 (⟨0, Nat.one_pos⟩ : Fin 1) (x 0) (x 1)) ∉ (tM.access (stageHalfR 1) : View sig .tc _ _ _).setOn Finset.univ := by
      rw [View.setOn_univ, View.set_slice_whole, mem_stageHalf]
      rintro ⟨_, h1, _⟩
      have h1' : 768 * 1 ≤ 0 + 1 * (x 0).val := h1
      omega
    rw [View.write_of_not_mem _ _ _ hn]
    have e2 : (stageR 1).emb (ix3 (⟨0, Nat.one_pos⟩ : Fin 1) (x 0) (x 1))
        = (tM.access (stageHalfR 0) : View sig .tc _ _ _).emb (ix3 (n0 := 1) (n1 := 768) (n2 := 1536) 0 ⟨(x 0).val, h⟩ (x 1)) := by
      funext a; fin_cases a <;> exact Fin.ext rfl
    rw [e2]
    exact View.write_emb_of_mem (v := (tM.access (stageHalfR 0) : View sig .tc _ _ _)) (Val := Elt F) f w0 (Finset.mem_univ _)
  · next h =>
    have e2 : (stageR 1).emb (ix3 (⟨0, Nat.one_pos⟩ : Fin 1) (x 0) (x 1))
        = (tM.access (stageHalfR 1) : View sig .tc _ _ _).emb (ix3 (n0 := 1) (n1 := 768) (n2 := 1536) 0 ⟨(x 0).val - 768, by omega⟩ (x 1)) := by
      funext a; fin_cases a
      · exact Fin.ext rfl
      · refine Fin.ext ?_
        show 0 + 1 * (x 0).val = 768 * 1 + 1 * ((x 0).val - 768)
        omega
      · exact Fin.ext rfl
    rw [e2]
    exact View.write_emb_of_mem (v := (tM.access (stageHalfR 1) : View sig .tc _ _ _)) (Val := Elt F) _ w1 (Finset.mem_univ _)

/-- What the copy of a finished row block leaves in the result: what the result is to hold there. -/
theorem landing_out (c : Dev nD) (s : Fin 4) (fd : (main_v1 : Ref sig .tc).ty.Contents (Elt F)) (w : Vec F S1536x1536 .bf16)
    (hw : w = resV m c s) (j : S6144x1536.Idx) (hj : j ∈ (outM (owner c s)).view.set) :
    (outM (owner c s)).view.write (Elt F) fd w Finset.univ j = outF m c j := by
  subst hw
  obtain ⟨x, -, rfl⟩ := Finset.mem_map.mp hj
  refine (View.write_emb_of_mem (v := (outM (owner c s)).view) (Val := Elt F) fd _ (Finset.mem_univ x)).trans ?_
  obtain ⟨a0, a1⟩ := outM_emb (owner c s) x
  have hx : (x 0).val < 1536 := (x 0).isLt
  show resV m c s x = resV m c _ _
  have e0 : ∀ p, slotOf c ⟨((outM (owner c s)).view.emb x (0 : Fin 2)).val / 1536, p⟩ = s := fun p =>
    (congrArg (slotOf c) (Fin.ext (by show _ / 1536 = (owner c s).val; rw [a0]; omega))).trans (slotOf_owner c s)
  have e1 : (ix2 (n0 := 1536) (n1 := 1536) ⟨((outM (owner c s)).view.emb x (0 : Fin 2)).val % 1536, Nat.mod_lt _ (by decide)⟩ ((outM (owner c s)).view.emb x (1 : Fin 2)) : S1536x1536.Idx) = x := by
    rw [eq_ix2 x]
    refine (ix2_inj _ _ _ _).mpr ⟨Fin.ext ?_, Fin.ext ?_⟩
    · show _ % 1536 = _
      rw [← eq_ix2 x, a0]; omega
    · rw [← eq_ix2 x]; exact a1
  exact (congr (congrArg (resV m c) (e0 _)) e1).symm

end Contents

end Cert.AllGather

end
-- ==== Proof.Sched.lean ====
/-
The schedule of the kernel's semaphores.

A device uses one barrier semaphore and sixteen DMA semaphores: six that count what its own copies have read (send),
six that count what has arrived (receive) and four that count its finished blocks of the result (out). Each is used
for one round. This module states who pays each semaphore, how much, and which part of which buffer comes with it;
then what a device owes and in which order it waits.
-/
module

public import proofs.«01_k».proof.Proof.Ring
public import Idealize.ShloMosaic.Lib.Ring

@[expose] public section

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores -/

/-- The barrier semaphore; the send, receive and out semaphores. -/
abbrev barS : Sem sig := (SemArray.scalar (sig.barrier 0 rfl) : Sems sig S_).sem
abbrev sendS (i : Fin 6) : DmaSem sig := ⟨i.val + 2, by have := i.isLt; show _ < 18; omega⟩
abbrev recvS (i : Fin 6) : DmaSem sig := ⟨i.val + 8, by have := i.isLt; show _ < 18; omega⟩
abbrev outS (j : Fin 4) : DmaSem sig := ⟨j.val + 14, by have := j.isLt; show _ < 18; omega⟩

/-- The sixteen DMA semaphores the body uses, in order; -/
abbrev osem (k : Fin 16) : SemLoc sig := .dma ⟨k.val + 2, by have := k.isLt; show _ < 18; omega⟩
/-- all seventeen, the barrier first. -/
abbrev csem : Fin 17 → SemLoc sig := fun | ⟨0, _⟩ => .reg barS | ⟨n + 1, h⟩ => osem ⟨n, by omega⟩

abbrev barCell (c : Dev nD) : GSem nD τ sig := ((c : Thread nD τ), .reg barS)
abbrev dmaCell (c : Dev nD) (k : Fin 16) : GSem nD τ sig := ((c : Thread nD τ), osem k)
abbrev sendCell (c : Dev nD) (i : Fin 6) : GSem nD τ sig := ((c : Thread nD τ), .dma (sendS i))
abbrev recvCell (c : Dev nD) (i : Fin 6) : GSem nD τ sig := ((c : Thread nD τ), .dma (recvS i))
abbrev outCell (c : Dev nD) (j : Fin 4) : GSem nD τ sig := ((c : Thread nD τ), .dma (outS j))
abbrev kcell (ck : Dev nD × Fin 17) : GSem nD τ sig := ((ck.1 : Thread nD τ), csem ck.2)

/-- Where the send, receive and out semaphores stand among the sixteen. -/
abbrev kS (i : Fin 6) : Fin 16 := ⟨i.val, by omega⟩
abbrev kR (i : Fin 6) : Fin 16 := ⟨i.val + 6, by omega⟩
abbrev kO (j : Fin 4) : Fin 16 := ⟨j.val + 12, by omega⟩

/-- What the copy of half a slot counts; what the copy of a row block of the result counts. -/
abbrev N : ℕ := (halfM 0 0).view.dmaCredit
abbrev NO : ℕ := (outM 0).view.dmaCredit
theorem N_pos : 0 < N := View.dmaCredit_pos _ (by decide)
theorem NO_pos : 0 < NO := View.dmaCredit_pos _ (by decide)

/-! ## Parts of the buffers -/

/-- Half `h` of slot `s` of device `c`'s communication buffer, held with share `q` at contents `f`. -/
def halfPts (c : Dev nD) (s : Fin 4) (h : Fin 2) (q : PosShare TreeShare) (f : Buf (Elt F) ((c : Thread nD τ).loc cc0_scratch0)) : sProp 𝕄 :=
  (c : Thread nD τ).loc cc0_scratch0 ↦[(halfR s h).set]{q} f
/-- The whole slot `s`. -/
def slotPts (c : Dev nD) (s : Fin 4) (q : PosShare TreeShare) (f : Buf (Elt F) ((c : Thread nD τ).loc cc0_scratch0)) : sProp 𝕄 :=
  (c : Thread nD τ).loc cc0_scratch0 ↦[(slotR s).set]{q} f
/-- Slot `k` of its staging buffer for results. -/
def stagePts (c : Dev nD) (k : Fin 2) (f : Buf (Elt F) ((c : Thread nD τ).loc cc0_scratch1)) : sProp 𝕄 :=
  (c : Thread nD τ).loc cc0_scratch1 ↦[(stageR k).set]{fullShare} f
/-- The row block of its result made from slot `s`. -/
def outPts (c : Dev nD) (s : Fin 4) (f : Buf (Elt F) ((c : Thread nD τ).loc main_v1)) : sProp 𝕄 :=
  (c : Thread nD τ).loc main_v1 ↦[(outR (owner c s)).set]{fullShare} f

omit [FloatOps F] in
/-- The same parts, as the copies name them. -/
theorem halfPts_eq (c : Dev nD) (s : Fin 4) (h : Fin 2) (q : PosShare TreeShare) (f : Buf (Elt F) ((halfM s h).view.loc (c : Thread nD τ))) :
    (halfPts c s h q f : sProp 𝕄) = ((halfM s h).view.loc (c : Thread nD τ) ↦[(halfM s h).view.set]{q} f) := by
  rw [halfM_set]; rfl
omit [FloatOps F] in
theorem stagePts_eq (c : Dev nD) (k : Fin 2) (f : Buf (Elt F) ((stageM k).view.loc (c : Thread nD τ))) :
    (stagePts c k f : sProp 𝕄) = ((stageM k).view.loc (c : Thread nD τ) ↦[(stageM k).view.set]{fullShare} f) := by
  rw [stageM_set]; rfl
omit [FloatOps F] in
theorem outPts_eq (c : Dev nD) (s : Fin 4) (f : Buf (Elt F) ((outM (owner c s)).view.loc (c : Thread nD τ))) :
    (outPts c s f : sProp 𝕄) = ((outM (owner c s)).view.loc (c : Thread nD τ) ↦[(outM (owner c s)).view.set]{fullShare} f) := by
  rw [outM_set]; rfl

omit [FloatOps F] in
instance halfPts_storable (c : Dev nD) (s h q f) : BI.Storable (upEmb : UEmb _ 𝕄) (halfPts (F := F) c s h q f) := by unfold halfPts; infer_instance
omit [FloatOps F] in
instance stagePts_storable (c : Dev nD) (k f) : BI.Storable (upEmb : UEmb _ 𝕄) (stagePts (F := F) c k f) := by unfold stagePts; infer_instance
omit [FloatOps F] in
instance outPts_storable (c : Dev nD) (s f) : BI.Storable (upEmb : UEmb _ 𝕄) (outPts (F := F) c s f) := by unfold outPts; infer_instance

omit [FloatOps F] in
/-- A slot is its two halves. -/
theorem slot_split (c : Dev nD) (s : Fin 4) (q) (f : Buf (Elt F) ((c : Thread nD τ).loc cc0_scratch0)) :
    slotPts c s q f ⊢ (iprop(halfPts c s 0 q f ∗ halfPts c s 1 q f) : sProp 𝕄) := by
  unfold slotPts halfPts
  rw [slot_halves]
  exact (pointsTo_union (halves_disjoint s)).1
omit [FloatOps F] in
theorem slot_join (c : Dev nD) (s : Fin 4) (q) (f : Buf (Elt F) ((c : Thread nD τ).loc cc0_scratch0)) :
    (iprop(halfPts c s 0 q f ∗ halfPts c s 1 q f) : sProp 𝕄) ⊢ slotPts c s q f := by
  unfold slotPts halfPts
  rw [slot_halves]
  exact (pointsTo_union (halves_disjoint s)).2

omit [FloatOps F] in
/-- A share of a slot, or of half a slot, is its left and its right part. -/
theorem slot_share (c : Dev nD) (s : Fin 4) (q : PosShare TreeShare) (f : Buf (Elt F) ((c : Thread nD τ).loc cc0_scratch0)) :
    slotPts c s q f ⊢ (iprop(slotPts c s q.left f ∗ slotPts c s q.right f) : sProp 𝕄) := by
  unfold slotPts; exact (pointsTo_share (PosShare.mem_left_op_right q)).1
omit [FloatOps F] in
theorem slot_unshare (c : Dev nD) (s : Fin 4) (q : PosShare TreeShare) (f : Buf (Elt F) ((c : Thread nD τ).loc cc0_scratch0)) :
    (iprop(slotPts c s q.left f ∗ slotPts c s q.right f) : sProp 𝕄) ⊢ slotPts c s q f := by
  unfold slotPts; exact (pointsTo_share (PosShare.mem_left_op_right q)).2
omit [FloatOps F] in
theorem half_share (c : Dev nD) (s : Fin 4) (h) (q : PosShare TreeShare) (f : Buf (Elt F) ((c : Thread nD τ).loc cc0_scratch0)) :
    halfPts c s h q f ⊢ (iprop(halfPts c s h q.left f ∗ halfPts c s h q.right f) : sProp 𝕄) := by
  unfold halfPts; exact (pointsTo_share (PosShare.mem_left_op_right q)).1

omit [FloatOps F] in
/-- The communication buffer is its four slots; -/
theorem comm_slots (c : Dev nD) (f : Buf (Elt F) ((c : Thread nD τ).loc cc0_scratch0)) :
    ((c : Thread nD τ).loc cc0_scratch0 ↦{fullShare} (f : Buf (Elt F) ((c : Thread nD τ).loc cc0_scratch0)) : sProp 𝕄)
      = iprop(slotPts c 0 fullShare f ∗ slotPts c 1 fullShare f ∗ slotPts c 2 fullShare f ∗ slotPts c 3 fullShare f) := by
  rw [Ring.pointsTo_blocks (fun s : Fin 4 => (slotR s).set) slots_disjoint slots_cover, bigSep_univ_eq_bigSepL [0, 1, 2, 3] (by decide) (by decide)]
  rfl
omit [FloatOps F] in
/-- the staging buffer its two; -/
theorem stage_slots (c : Dev nD) (f : Buf (Elt F) ((c : Thread nD τ).loc cc0_scratch1)) :
    ((c : Thread nD τ).loc cc0_scratch1 ↦{fullShare} (f : Buf (Elt F) ((c : Thread nD τ).loc cc0_scratch1)) : sProp 𝕄)
      = iprop(stagePts c 0 f ∗ stagePts c 1 f) := by
  unfold stagePts
  rw [Ring.pointsTo_blocks (fun k : Fin 2 => (stageR k).set) stages_disjoint stages_cover, bigSep_univ_eq_bigSepL [0, 1] (by decide) (by decide)]
  rfl
omit [FloatOps F] in
theorem stage_join (c : Dev nD) :
    (iprop((∃ f : Buf (Elt F) ((c : Thread nD τ).loc cc0_scratch1), stagePts c 0 f) ∗ ∃ f : Buf (Elt F) ((c : Thread nD τ).loc cc0_scratch1), stagePts c 1 f) : sProp 𝕄)
      ⊢ iprop(∃ f : Buf (Elt F) ((c : Thread nD τ).loc cc0_scratch1), (c : Thread nD τ).loc cc0_scratch1 ↦{fullShare} f) := by
  unfold stagePts
  have e : (bigSep Finset.univ (fun k : Fin 2 => iprop(∃ f : Buf (Elt F) ((c : Thread nD τ).loc cc0_scratch1), (c : Thread nD τ).loc cc0_scratch1 ↦[(stageR k).set]{fullShare} f)) : sProp 𝕄)
      = iprop((∃ f : Buf (Elt F) ((c : Thread nD τ).loc cc0_scratch1), (c : Thread nD τ).loc cc0_scratch1 ↦[(stageR 0).set]{fullShare} f)
          ∗ (∃ f : Buf (Elt F) ((c : Thread nD τ).loc cc0_scratch1), (c : Thread nD τ).loc cc0_scratch1 ↦[(stageR 1).set]{fullShare} f)) := by
    rw [bigSep_univ_eq_bigSepL [0, 1] (by decide) (by decide)]; rfl
  iintro ⟨⟨%f, H⟩, H'⟩
  iapply (Ring.pointsTo_blocks_join_exists (fun k : Fin 2 => (stageR k).set) stages_disjoint stages_cover f)
  iapply (Entails.of_eq e.symm)
  isplitl [H]
  · iexists f; iexact H
  · iexact H'
omit [FloatOps F] in
/-- and the result its four row blocks. -/
theorem out_blocks (c : Dev nD) (f : Buf (Elt F) ((c : Thread nD τ).loc main_v1)) :
    ((c : Thread nD τ).loc main_v1 ↦{fullShare} (f : Buf (Elt F) ((c : Thread nD τ).loc main_v1)) : sProp 𝕄)
      = iprop(outPts c 0 f ∗ outPts c 1 f ∗ outPts c 2 f ∗ outPts c 3 f) := by
  unfold outPts
  rw [Ring.pointsTo_blocks (fun s : Fin 4 => (outR (owner c s)).set) (outs_disjoint c) (outs_cover c), bigSep_univ_eq_bigSepL [0, 1, 2, 3] (by decide) (by decide)]
  rfl

/-! ## The payloads -/

/-- The share of its source a device lends to copy `i`. -/
def sh (i : Fin 6) : PosShare TreeShare := match i with
  | 0 => fullShare.left | 1 => fullShare.left | 2 => fullShare.right.left | 3 => fullShare.right.left | 4 => fullShare.left | 5 => fullShare.left
/-- The staging slot row block `j` of the result is copied from. -/
def stk (j : Fin 4) : Fin 2 := match j with | 0 => 0 | 1 => 1 | 2 => 0 | 3 => 1

/-- The place copy `i` of device `c` fills, at some contents. -/
def give (c : Dev nD) (i : Fin 6) : sProp 𝕄 := iprop(∃ f, halfPts (dest i c) (dslot i) (half i) fullShare f)
/-- What the right neighbour's signal brings: the places of the copies to the right; and what the left one's brings. -/
def barPayT (c : Dev nD) : sProp 𝕄 := iprop(give (F := F) c 0 ∗ give c 1 ∗ give c 4)
def barPayF (c : Dev nD) : sProp 𝕄 := iprop(give (F := F) c 2 ∗ give c 3 ∗ give c 5)
/-- A send semaphore gives back the share lent; -/
def sendPay (c : Dev nD) (i : Fin 6) : sProp 𝕄 := halfPts c (sslot i) (half i) (sh i) (commF m c)
/-- a receive semaphore brings the half slot filled; -/
def recvPay (c : Dev nD) (i : Fin 6) : sProp 𝕄 := halfPts c (dslot i) (half i) fullShare (commF m c)
/-- an out semaphore the finished row block and the staging slot free again. -/
def outPay (c : Dev nD) (j : Fin 4) : sProp 𝕄 := iprop(outPts c j (outF m c) ∗ ∃ f : Buf (Elt F) ((c : Thread nD τ).loc cc0_scratch1), stagePts c (stk j) f)

/-- What DMA semaphore `k` of device `c` brings, and how much it counts. -/
def payK (c : Dev nD) (k : ℕ) : sProp 𝕄 :=
  if h : k < 6 then sendPay m c ⟨k, h⟩ else if h : k < 12 then recvPay m c ⟨k - 6, by omega⟩ else if h : k < 16 then outPay m c ⟨k - 12, by omega⟩ else iprop(emp)
def amtK (k : ℕ) : ℕ := if k < 12 then N else NO
theorem amtK_pos (k : ℕ) : 0 < amtK k := by unfold amtK; split; exacts [N_pos, NO_pos]

/-! ## The schedule -/

/-- One round. The barrier has the two duties `true` (the right neighbour's) and `false` (the left one's) of one unit
    each; a DMA semaphore of the body has one duty, of what its copy counts. -/
def ringRd : Rounds.Schedule (GSem nD τ sig) Bool 𝕄 where
  duties g r := if r = 0 ∧ g.1.2 = .tc then (match g.2 with
    | .reg s => if s = barS then Finset.univ else ∅
    | .dma q => if 2 ≤ q.val then {false} else ∅) else ∅
  unitless _ := False
  amount g _ _ := match g.2 with | .reg _ => 1 | .dma q => amtK (q.val - 2)
  payload g _ d := match g.2 with
    | .reg _ => if d then barPayT g.1.1 else barPayF g.1.1
    | .dma q => payK m g.1.1 (q.val - 2)
  amount_pos g _ _ _ := by
    rcases g with ⟨t, s | q⟩
    · exact Nat.one_pos
    · exact amtK_pos _

theorem storable_sep {P Q : sProp 𝕄} (hP : BI.Storable (upEmb : UEmb _ 𝕄) P) (hQ : BI.Storable (upEmb : UEmb _ 𝕄) Q) :
    BI.Storable (upEmb : UEmb _ 𝕄) iprop(P ∗ Q) := inferInstance
theorem storable_ex {A : Type} {P : A → sProp 𝕄} (h : ∀ a, BI.Storable (upEmb : UEmb _ 𝕄) (P a)) :
    BI.Storable (upEmb : UEmb _ 𝕄) iprop(∃ a, P a) := inferInstance
instance sendPay_storable (c : Dev nD) (i) : BI.Storable (upEmb : UEmb _ 𝕄) (sendPay m c i) := halfPts_storable ..
instance recvPay_storable (c : Dev nD) (i) : BI.Storable (upEmb : UEmb _ 𝕄) (recvPay m c i) := halfPts_storable ..
instance outPay_storable (c : Dev nD) (j) : BI.Storable (upEmb : UEmb _ 𝕄) (outPay m c j) :=
  storable_sep (outPts_storable ..) (storable_ex fun f => stagePts_storable ..)

instance ringRd_payload_storable (g : GSem nD τ sig) (r : ℕ) (d : Bool) :
    BI.Storable (upEmb : UEmb _ 𝕄) ((ringRd (F := F) m).payload g r d) := by
  rcases g with ⟨t, s | q⟩
  · show BI.Storable upEmb (if d then barPayT t.1 else barPayF t.1)
    unfold barPayT barPayF give
    split <;> infer_instance
  · show BI.Storable upEmb (payK m t.1 (q.val - 2))
    unfold payK
    (repeat' split) <;> infer_instance

section Sched
variable (c : Dev nD) (k : Fin 16)

theorem duties_bar : (ringRd (F := F) m).duties (barCell c) 0 = Finset.univ := by
  dsimp only [ringRd]; rw [if_pos ⟨rfl, rfl⟩]; exact if_pos rfl
theorem duties_dma : (ringRd (F := F) m).duties (dmaCell c k) 0 = {false} := by
  dsimp only [ringRd]; rw [if_pos ⟨rfl, rfl⟩]; exact if_pos (Nat.le_add_left 2 k.val)
theorem duties_later (g : GSem nD τ sig) : ∀ r, 1 ≤ r → (ringRd (F := F) m).duties g r = ∅ :=
  fun r hr => by dsimp only [ringRd]; exact if_neg fun h => by omega

theorem amount_bar (d : Bool) : (ringRd (F := F) m).amount (barCell c) 0 d = 1 := rfl
theorem amount_dma (d : Bool) : (ringRd (F := F) m).amount (dmaCell c k) 0 d = amtK k.val := rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (ringRd (F := F) m).expect (dmaCell c k) 0 = amtK k.val := by
  unfold Schedule.expect Schedule.amountOf; rw [duties_dma, Finset.sum_singleton, amount_dma]

theorem payload_bar_true : (ringRd (F := F) m).payload (barCell c) 0 true = barPayT c := rfl
theorem payload_bar_false : (ringRd (F := F) m).payload (barCell c) 0 false = barPayF c := rfl
theorem payload_dma (d : Bool) : (ringRd (F := F) m).payload (dmaCell c k) 0 d = payK m c k.val := rfl

theorem pay_send (i : Fin 6) : payK m c (kS i).val = sendPay m c i := by
  unfold payK; rw [dif_pos i.isLt]
theorem pay_recv (i : Fin 6) : payK m c (kR i).val = recvPay m c i := by
  have := i.isLt
  unfold payK; rw [dif_neg (by show ¬ i.val + 6 < 6; omega), dif_pos (by show i.val + 6 < 12; omega)]
  exact congrArg (recvPay m c) (Fin.ext (Nat.add_sub_cancel ..))
theorem pay_out (j : Fin 4) : payK m c (kO j).val = outPay m c j := by
  have := j.isLt
  unfold payK; rw [dif_neg (by show ¬ j.val + 12 < 6; omega), dif_neg (by show ¬ j.val + 12 < 12; omega), dif_pos (by show j.val + 12 < 16; omega)]
  exact congrArg (outPay m c) (Fin.ext (Nat.add_sub_cancel ..))
omit [FloatOps F] in
theorem amt_send (i : Fin 6) : amtK (kS i).val = N := if_pos (by have := i.isLt; show i.val < 12; omega)
omit [FloatOps F] in
theorem amt_recv (i : Fin 6) : amtK (kR i).val = N := if_pos (by have := i.isLt; show i.val + 6 < 12; omega)
omit [FloatOps F] in
theorem amt_out (j : Fin 4) : amtK (kO j).val = NO := if_neg (by show ¬ j.val + 12 < 12; omega)

/-- What the wait on the barrier brings; -/
theorem rest_bar : bigSep ((ringRd (F := F) m).duties (barCell c) 0 \ ∅) (fun d => (ringRd (F := F) m).payload (barCell c) 0 d) = iprop(barPayF c ∗ barPayT c) := by
  rw [Finset.sdiff_empty, duties_bar, bigSep_univ_eq_bigSepL [false, true] (by decide) (by decide), bigSepL_cons_cons, bigSepL_singleton,
    payload_bar_false, payload_bar_true]
  rfl
/-- and the wait on a DMA semaphore. -/
theorem rest_dma : bigSep ((ringRd (F := F) m).duties (dmaCell c k) 0 \ ∅) (fun d => (ringRd (F := F) m).payload (dmaCell c k) 0 d) = payK m c k.val := by
  rw [Finset.sdiff_empty, duties_dma, bigSep_singleton, payload_dma]

end Sched

/-! ## What a device owes, and the order of the waits -/

/-- Copy `i` is owed to the receive semaphore it raises. -/
def T (i : Fin 6) (c : Dev nD) : CellTallies nD τ sig Unit := tallyAt (recvCell (dest i c) i) () N
/-- What is still owed before copy 5, 4, 3, 1, 2, 0 (the copies start in the order 0, 2, 1, 3, 4, 5); -/
def OT5 (c : Dev nD) : CellTallies nD τ sig Unit := 0 + T 5 c
def OT4 (c : Dev nD) : CellTallies nD τ sig Unit := OT5 c + T 4 c
def OT3 (c : Dev nD) : CellTallies nD τ sig Unit := OT4 c + T 3 c
def OT1 (c : Dev nD) : CellTallies nD τ sig Unit := OT3 c + T 1 c
def OT2 (c : Dev nD) : CellTallies nD τ sig Unit := OT1 c + T 2 c
def OT0 (c : Dev nD) : CellTallies nD τ sig Unit := OT2 c + T 0 c
/-- before the second signal and at the start. -/
def OB (c : Dev nD) : CellTallies nD τ sig Unit := OT0 c + tallyAt (barCell (nxt c)) () 1
def O₀ (c : Dev nD) : CellTallies nD τ sig Unit := OB c + tallyAt (barCell (prv c)) () 1

def L (g : GSem nD τ sig) : Finset Unit := if g.1.2 = .tc then {()} else ∅
/-- The barrier at 1, the receive semaphores of the direct copies at 2, those of the forwarded ones at 3, all else at 0. -/
def lv (g : GSem nD τ sig) (_ : Unit) : ℕ := match g.2 with
  | .reg _ => 1
  | .dma q => if 12 ≤ q.val ∧ q.val < 14 then 3 else if 8 ≤ q.val ∧ q.val < 12 then 2 else 0

theorem L_of_ne (g : GSem nD τ sig) (h : g.1.2 ≠ .tc) : L g = ∅ := if_neg h
theorem L_tc (c : Dev nD) (sm : SemLoc sig) : L ((c : Thread nD τ), sm) = {()} := if_pos rfl

theorem pos_add {A B : CellTallies nD τ sig Unit} {g : GSem nD τ sig} {u : Unit} (h : 0 < (A + B) g u) : 0 < A g u ∨ 0 < B g u := by
  rw [Pi.add_apply, Finsupp.add_apply] at h; omega
theorem pos_tally {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- What is owed is owed to receive semaphores: before copy 5 or 4 to those of the forwarded copies only. -/
theorem OT5_pos {c : Dev nD} {g : GSem nD τ sig} {u : Unit} (h : 0 < OT5 c g u) : ∃ d, g = recvCell d 5 :=
  (pos_add h).elim (fun h => absurd h (Nat.lt_irrefl 0)) fun h => ⟨_, pos_tally h⟩
theorem OT4_pos {c : Dev nD} {g : GSem nD τ sig} {u : Unit} (h : 0 < OT4 c g u) : ∃ d i, 4 ≤ (i : Fin 6).val ∧ g = recvCell d i :=
  (pos_add h).elim (fun h => let ⟨d, hd⟩ := OT5_pos h; ⟨d, 5, by decide, hd⟩) fun h => ⟨_, 4, by decide, pos_tally h⟩
theorem OT0_pos {c : Dev nD} {g : GSem nD τ sig} {u : Unit} (h : 0 < OT0 c g u) : ∃ d i, g = recvCell d i := by
  rcases pos_add h with h | h
  · rcases pos_add h with h | h
    · rcases pos_add h with h | h
      · rcases pos_add h with h | h
        · obtain ⟨d, i, -, e⟩ := OT4_pos h; exact ⟨d, i, e⟩
        · exact ⟨_, _, pos_tally h⟩
      · exact ⟨_, _, pos_tally h⟩
    · exact ⟨_, _, pos_tally h⟩
  · exact ⟨_, _, pos_tally h⟩
theorem O₀_pos {c : Dev nD} {g : GSem nD τ sig} {u : Unit} (h : 0 < O₀ c g u) : (∃ d i, g = recvCell d i) ∨ ∃ d, g = barCell d := by
  rcases pos_add h with h | h
  · rcases pos_add h with h | h
    · exact .inl (OT0_pos h)
    · exact .inr ⟨_, pos_tally h⟩
  · exact .inr ⟨_, pos_tally h⟩

theorem lv_bar (d : Dev nD) : lv (barCell d) () = 1 := rfl
theorem lv_recv (d : Dev nD) (i : Fin 6) : 2 ≤ lv (recvCell d i) () := by
  show 2 ≤ if 12 ≤ i.val + 8 ∧ i.val + 8 < 14 then 3 else if 8 ≤ i.val + 8 ∧ i.val + 8 < 12 then 2 else 0
  split
  · omega
  · rw [if_pos (by have := i.isLt; omega)]
theorem lv_recv_late (d : Dev nD) (i : Fin 6) (h : 4 ≤ i.val) : lv (recvCell d i) () = 3 :=
  if_pos (by have := i.isLt; show 12 ≤ i.val + 8 ∧ i.val + 8 < 14; omega)

omit [FloatOps F] in
/-- A device may wait on a semaphore all of whose level is below that of what it owes. -/
theorem mayWait_of (c : Dev nD) (sm : SemLoc sig) (O : CellTallies nD τ sig Unit) (n : ℕ) (hn : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

omit [FloatOps F] in
/-- The waits of the staging copies. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g u hg => ?_
    · show (if 12 ≤ q.val ∧ q.val < 14 then 3 else if 8 ≤ q.val ∧ q.val < 12 then 2 else 0) ≤ 0
      rw [if_neg (by omega), if_neg (by omega)]
    · rcases O₀_pos hg with ⟨d, i, rfl⟩ | ⟨d, rfl⟩
      · exact ⟨rfl, lt_of_lt_of_le Nat.zero_lt_two (lv_recv d i)⟩
      · exact ⟨rfl, Nat.one_pos⟩
  · rw [MayWait_zero]; iintro -; iempintro
omit [FloatOps F] in
/-- The wait on the barrier, all copies owed; -/
theorem mayWait_bar (c : Dev nD) : (levAts L lv : sProp 𝕄) ⊢ MayWait (c : Thread nD τ) (.reg barS) () (OT0 c) :=
  mayWait_of c _ _ 1 le_rfl fun g u hg => by obtain ⟨d, i, rfl⟩ := OT0_pos hg; exact ⟨rfl, lv_recv d i⟩
omit [FloatOps F] in
/-- on the receive semaphore of copy 0, the forwarded copies owed; -/
theorem mayWait_recv0 (c : Dev nD) : (levAts L lv : sProp 𝕄) ⊢ MayWait (c : Thread nD τ) (.dma (recvS 0)) () (OT4 c) :=
  mayWait_of c _ _ 2 le_rfl fun g u hg => by
    obtain ⟨d, i, h, rfl⟩ := OT4_pos hg; exact ⟨rfl, by rw [lv_recv_late d i h]; decide⟩
omit [FloatOps F] in
/-- and on that of copy 2, the last copy owed. -/
theorem mayWait_recv2 (c : Dev nD) : (levAts L lv : sProp 𝕄) ⊢ MayWait (c : Thread nD τ) (.dma (recvS 2)) () (OT5 c) :=
  mayWait_of c _ _ 2 le_rfl fun g u hg => by
    obtain ⟨d, rfl⟩ := OT5_pos hg; exact ⟨rfl, by rw [lv_recv_late d 5 (by decide)]; decide⟩

end Cert.AllGather

end
-- ==== Proof.Steps.lean ====
/-
One rule per kind of step of the kernel.

The kernel signals its neighbours, starts copies to them, waits for its semaphores, loads and stores, and copies
finished row blocks to the result. Each rule here is the library's rule for the step at this kernel's schedule: it
says what the step takes and what it leaves.
-/
module

public import proofs.«01_k».proof.Proof.Sched

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## What every device knows, and what it owes -/

/-- Every semaphore's invariant, under the names `K`, and that its round is reached. -/
def records (K : Dev nD × Fin 17 → ℕ) : sProp 𝕄 :=
  iprop((bigSep Finset.univ fun ck : Dev nD × Fin 17 => cellInv ER (ringRd m) (K ck) (kcell ck))
    ∗ bigSep Finset.univ fun ck : Dev nD × Fin 17 => reached ER (kcell ck) 0)

instance records_persistent (K : Dev nD × Fin 17 → ℕ) : BI.Persistent (records m K) := by unfold records; infer_instance

theorem inv_at (K : Dev nD × Fin 17 → ℕ) (ck : Dev nD × Fin 17) :
    records m K ⊢ (cellInv ER (ringRd m) (K ck) (kcell ck) : sProp 𝕄) :=
  sep_elim_left.trans (bigSep_elim (Finset.mem_univ ck))
theorem reached_at (K : Dev nD × Fin 17 → ℕ) (ck : Dev nD × Fin 17) :
    records m K ⊢ (reached ER (kcell ck) 0 : sProp 𝕄) :=
  sep_elim_right.trans (bigSep_elim (Finset.mem_univ ck))

/-- Device `c` owes `O`, whatever it has waited for. -/
def ow (c : Dev nD) (O : CellTallies nD τ sig Unit) : sProp 𝕄 := iprop(∃ W : Waits sig Unit, owes (c : Thread nD τ) O W)

section Rules
variable (K : Dev nD × Fin 17 → ℕ) (c : Dev nD) {α : Type} {k : PUnit → Prog (TpuEff nD τ sig (Elt F) Λ₀ .tc) α}

/-! ## The entry handshake -/

/-- The signal to the left neighbour hands over the places its copies to the right fill; -/
theorem step_signal_prv {Q : α → sProp 𝕄} (n : Dev nD) (hn : n = prv c) (O : CellTallies nD τ sig Unit) :
    iprop(records m K ∗ ow c (O + tallyAt (barCell (prv c)) () 1) ∗ dutyTok ER (barCell (prv c)) 0 true ∗ barPayT (prv c))
      ⊢ iprop((ow c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS (1#32).toInt) k) Q) := by
  subst hn
  unfold ow
  iintro ⟨#HR, ⟨%W, HO⟩, Ht, Hp⟩ Hk
  iapply (Rounds.wp_signal 𝒱₀ ER (ringRd m) (c : Thread nD τ) none (dst := (prv c : Thread nD τ)) (κ := K (prv c, 0))
      (d := true) (by rw [duties_bar]; exact Finset.mem_univ _) ((amount_bar m (prv c) true).trans (by decide)) () O rfl) $$ [HO Ht Hp]
  · isplitr; · iapply (inv_at m K (prv c, 0)); iexact HR
    isplitl [HO]; · iexact HO
    isplitl [Ht]; · iexact Ht
    isplitl [Hp]; · rw [payload_bar_true]; iexact Hp
    iapply (reached_at m K (prv c, 0)); iexact HR
  iintro HO
  iapply Hk; iexists W; iexact HO

/-- that to the right neighbour the places its copies to the left fill. -/
theorem step_signal_nxt {Q : α → sProp 𝕄} (n : Dev nD) (hn : n = nxt c) (O : CellTallies nD τ sig Unit) :
    iprop(records m K ∗ ow c (O + tallyAt (barCell (nxt c)) () 1) ∗ dutyTok ER (barCell (nxt c)) 0 false ∗ barPayF (nxt c))
      ⊢ iprop((ow c O -∗ wp frame (wpE (defs₀ (F := F)) 𝒱₀ (c : Thread nD τ) none) Set.univ (k ⟨⟩) Q) -∗ wp frame (wpE (defs₀ (F := F)) 𝒱₀ (c : Thread nD τ) none) Set.univ (.op (.semSignal (n : Thread nD τ) barS (1#32).toInt) k) Q) := by
  subst hn
  unfold ow
  iintro ⟨#HR, ⟨%W, HO⟩, Ht, Hp⟩ Hk
  iapply (Rounds.wp_signal 𝒱₀ ER (ringRd m) (c : Thread nD τ) none (dst := (nxt c : Thread nD τ)) (κ := K (nxt c, 0))
      (d := false) (by rw [duties_bar]; exact Finset.mem_univ _) ((amount_bar m (nxt c) false).trans (by decide)) () O rfl) $$ [HO Ht Hp]
  · isplitr; · iapply (inv_at m K (nxt c, 0)); iexact HR
    isplitl [HO]; · iexact HO
    isplitl [Ht]; · iexact Ht
    isplitl [Hp]; · rw [payload_bar_false]; iexact Hp
    iapply (reached_at m K (nxt c, 0)); iexact HR
  iintro HO
  iapply Hk; iexists W; iexact HO

/-- The wait for both neighbours' signals brings the places of all six copies; the barrier is used no more. -/
theorem step_wait_bar {Q : α → sProp 𝕄} :
    iprop(records m K ∗ levAts L lv ∗ cred (tallyAt (barCell c) () 2) ∗ ow c (OT0 c) ∗ atPos ER (barCell c) 0 ∅ 0)
      ⊢ iprop(((ow c (OT0 c) ∗ semVal (barCell c) 0 ∗ barPayF c ∗ barPayT c) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (2#32).toInt) k) Q) := by
  unfold ow
  iintro ⟨#HR, #Hlev, Hc, ⟨%W, HO⟩, Hat⟩ Hk
  ihave #HI := (inv_at m K (c, 0)) $$ HR
  iapply (Rounds.wp_wait_rest_token 𝒱₀ ER (ringRd m) (c : Thread nD τ) none (κ := K (c, 0))
      (wpE_semWait_eq 𝒱₀ (c : Thread nD τ) none Set.univ) (Set.mem_univ _) () (O := OT0 c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  icases Hp with ⟨HpF, HpT⟩
  imod (Rounds.cell_close ER (ringRd m) (Set.mem_univ (K (c, 0))) (fun h => h) (R := 0 + 1) (duties_later m (barCell c))) $$ [Hat] with Hz
  · isplitr; · iexact HI
    iexact Hat
  iapply Hk
  isplitl [HO]; · iexists _; iexact HO
  isplitl [Hz]; · iexact Hz
  isplitl [HpF] <;> iassumption

/-! ## The copies -/

/-- Copy `i` takes the share it reads and the place it fills, and pays the receive semaphore it raises. -/
theorem step_send {Q : α → sProp 𝕄} (i : Fin 6) (n : Dev nD) (hn : n = dest i c)
    {hsc : (halfM (dslot i) (half i) : Memref sig (Dev.tc n : Thread nD τ).2.kind .vmem S768x768 .bf16).view.ref.isScScratch = false}
    {hsrc : (halfM (sslot i) (half i)).view.WordExact} {hdst : (halfM (dslot i) (half i)).view.WordExact}
    {hsem : DmaTarget.Typed .vmem (.dma (recvS i)) (.remote (Dev.tc n : Thread nD τ) (halfM (dslot i) (half i)) (.dma (sendS i)) hsc)}
    (O : CellTallies nD τ sig Unit) :
    iprop(records m K ∗ ow c (O + T i c) ∗ halfPts c (sslot i) (half i) (sh i) (commF m c) ∗ give c i
        ∗ dutyTok ER (sendCell c i) 0 false ∗ dutyTok ER (recvCell (dest i c) i) 0 false)
      ⊢ iprop(((ow c O ∗ cred (tallyAt (sendCell c i) () N)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (halfM (sslot i) (half i)) (.remote (Dev.tc n : Thread nD τ) (halfM (dslot i) (half i)) (.dma (sendS i)) hsc) (.dma (recvS i)) hsrc hdst hsem) k) Q) := by
  subst hn
  unfold ow give
  iintro ⟨#HR, ⟨%W, HO⟩, Hs, ⟨%fd, Hd⟩, Ht, Ht'⟩ Hk
  ihave Hs' := (Entails.of_eq (halfPts_eq c (sslot i) (half i) (sh i) (commF m c))) $$ Hs
  ihave Hd' := (Entails.of_eq (halfPts_eq (dest i c) (dslot i) (half i) fullShare fd)) $$ Hd
  iapply (Rounds.wp_send_pointsTo 𝒱₀ ER (ringRd m) (c : Thread nD τ) none (κ₁ := K (c, (kS i).succ)) (κ₂ := K (dest i c, (kR i).succ))
    (c' := (dest i c : Thread nD τ)) (src := halfM (sslot i) (half i)) (dst := halfM (dslot i) (half i)) (sS := .dma (sendS i)) (sem := .dma (recvS i))
    (r₁ := 0) (r₂ := 0) (d₁ := false) (d₂ := false) (fd := fd) (fs := commF m c) (q := sh i)
    (hd₁ := (duties_dma m c (kS i)).symm ▸ Finset.mem_singleton_self _) (hd₂ := (duties_dma m (dest i c) (kR i)).symm ▸ Finset.mem_singleton_self _)
    () () N rfl ((amount_dma m c (kS i) false).trans (amt_send i)) ((amount_dma m (dest i c) (kR i) false).trans (amt_recv i)) O rfl (W := W)
    (by
      refine BIBase.Entails.trans ?_ (Entails.of_eq ((payload_dma m c (kS i) false).trans (pay_send m c i)).symm)
      exact Entails.of_eq (halfPts_eq c (sslot i) (half i) (sh i) (commF m c)).symm)
    (by
      refine BIBase.Entails.trans ?_ (Entails.of_eq ((payload_dma m (dest i c) (kR i) false).trans (pay_recv m (dest i c) i)).symm)
      refine BIBase.Entails.trans ?_ (Entails.of_eq (halfPts_eq (dest i c) (dslot i) (half i) fullShare (commF m (dest i c))).symm)
      exact Entails.of_eq (pointsTo_congr fun j hj => landing m i c fd j hj))) $$ [HO Hs' Hd' Ht Ht']
  · isplitr; · iapply (inv_at m K (c, (kS i).succ)); iexact HR
    isplitr; · iapply (inv_at m K (dest i c, (kR i).succ)); iexact HR
    isplitl [Hs']; · iexact Hs'
    isplitl [Hd']; · iexact Hd'
    isplitl [HO]; · iexact HO
    isplitl [Ht]; · iexact Ht
    isplitr; · iapply (reached_at m K (c, (kS i).succ)); iexact HR
    isplitl [Ht']; · iexact Ht'
    iapply (reached_at m K (dest i c, (kR i).succ)); iexact HR
  iintro ⟨Hc, HO⟩
  iapply Hk
  isplitl [HO]; · iexists W; iexact HO
  iexact Hc

/-- The wait on a DMA semaphore of the body brings what the schedule says, and the semaphore is used no more. -/
theorem step_wait {Q : α → sProp 𝕄} (j : Fin 16) {sp sp' : Space} {s s' : Shape} {e e' : EltTy} {src : Memref sig .tc sp' s' e'} {dst : Memref sig .tc sp s e}
    {hsrc : src.view.WordExact} {hdst : dst.view.WordExact} (q : DmaSem sig) (hq : SemLoc.dma q = osem j) (hN : dst.view.dmaCredit = amtK j.val)
    (O : CellTallies nD τ sig Unit) (hO : (levAts L lv : sProp 𝕄) ⊢ MayWait (c : Thread nD τ) (osem j) () O) :
    iprop(records m K ∗ levAts L lv ∗ cred (tallyAt (dmaCell c j) () (amtK j.val)) ∗ ow c O ∗ atPos ER (dmaCell c j) 0 ∅ 0)
      ⊢ iprop(((ow c O ∗ semVal (dmaCell c j) 0 ∗ payK m c j.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  cases hq
  unfold ow
  iintro ⟨#HR, #Hlev, Hc, ⟨%W, HO⟩, Hat⟩ Hk
  ihave #HI := (inv_at m K (c, j.succ)) $$ HR
  rw [← hN]
  iapply (Rounds.wp_wait_rest_token 𝒱₀ ER (ringRd m) (c : Thread nD τ) none (κ := K (c, j.succ))
      (wpE_waitDma2_eq 𝒱₀ (c : Thread nD τ) none Set.univ) (Set.mem_univ _) () (O := O) (W := W) (R := 0) (m := 0) (T := ∅)
      ((Nat.zero_add _).trans (hN.trans (expect_dma m c j).symm))) $$ [Hc HO Hat]
  · isplitr; · iexact HI
    isplitl [Hc]; · iexact Hc
    isplitl [HO]; · iexact HO
    isplitr; · iapply hO; iexact Hlev
    iexact Hat
  iintro ⟨HO, Hat, -, Hpay⟩
  ihave Hp := (Entails.of_eq (rest_dma m c j)) $$ Hpay
  imod (Rounds.cell_close ER (ringRd m) (Set.mem_univ (K (c, j.succ))) (fun h => h) (R := 0 + 1) (duties_later m (dmaCell c j))) $$ [Hat] with Hz
  · isplitr; · iexact HI
    iexact Hat
  iapply Hk
  isplitl [HO]; · iexists _; iexact HO
  isplitl [Hz]; · iexact Hz
  iexact Hp

/-- Owing nothing, a device may wait. -/
theorem mayWait_none (sm : SemLoc sig) : (levAts L lv : sProp 𝕄) ⊢ MayWait (c : Thread nD τ) sm () 0 := by
  rw [MayWait_zero]; iintro -; iempintro

/-- What the copy of finished row block `s` leaves is what its semaphore is to bring. -/
theorem out_pay (s : Fin 4) (f : Buf (Elt F) ((c : Thread nD τ).loc cc0_scratch1)) (w : Vec F S1536x1536 .bf16) (hw : w = resV m c s)
    (fd : Buf (Elt F) ((c : Thread nD τ).loc main_v1)) :
    iprop(outPts c s ((outM (owner c s)).view.write (Elt F) fd w Finset.univ) ∗ stagePts c (stk s) f) ⊢ outPay m c s := by
  have e : outPts c s ((outM (owner c s)).view.write (Elt F) fd w Finset.univ) = (outPts c s (outF m c) : sProp 𝕄) := by
    unfold outPts
    exact pointsTo_congr fun j hj => landing_out m c s fd w hw j (by rw [outM_set]; exact hj)
  unfold outPay
  rw [e]
  iintro ⟨H1, H2⟩
  isplitl [H1]; · iexact H1
  iexists f; iexact H2

/-- The copy of finished row block `s` from its staging slot to the result. -/
theorem step_out {Q : α → sProp 𝕄} (s : Fin 4) {dst : Memref sig .tc .hbm S1536x1536 .bf16} (hd : dst = outM (owner c s))
    {hsrc : (stageM (stk s)).view.WordExact} {hdst : dst.view.WordExact}
    {hsem : DmaTarget.Typed (nD := nD) (τ := τ) (p := .tc) .vmem (.dma (outS s)) (.here dst)}
    (f : Buf (Elt F) ((c : Thread nD τ).loc cc0_scratch1)) (w : Vec F S1536x1536 .bf16) (hf : (stageM (stk s)).view.read (Elt F) f = w) (hw : w = resV m c s)
    (fd : Buf (Elt F) ((c : Thread nD τ).loc main_v1)) :
    iprop(records m K ∗ stagePts c (stk s) f ∗ outPts c s fd ∗ dutyTok ER (outCell c s) 0 false)
      ⊢ iprop((cred (tallyAt (outCell c s) () NO) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (stageM (stk s)) (.here dst) (.dma (outS s)) hsrc hdst hsem) k) Q) := by
  subst hd
  iintro ⟨#HR, Hs, Hd, Ht⟩ Hk
  ihave Hs' := (Entails.of_eq (stagePts_eq c (stk s) f)) $$ Hs
  ihave Hd' := (Entails.of_eq (outPts_eq c s fd)) $$ Hd
  iapply (Rounds.wp_copy_pointsTo 𝒱₀ ER (ringRd m) (c : Thread nD τ) none (κ := K (c, (kO s).succ)) (src := stageM (stk s)) (dst := outM (owner c s)) (sem := .dma (outS s)) (r := 0) (d := false) (fd := fd) (fs := f) (q := fullShare)
    (hd := (duties_dma m c (kO s)).symm ▸ Finset.mem_singleton_self _) () NO rfl ((amount_dma m c (kO s) false).trans (amt_out s))
    (by
      refine BIBase.Entails.trans ?_ (Entails.of_eq ((payload_dma m c (kO s) false).trans (pay_out m c s)).symm)
      rw [hf]
      refine BIBase.Entails.trans (BIClass.sep_mono (Entails.of_eq (outPts_eq c s _).symm) (Entails.of_eq (stagePts_eq c (stk s) f).symm)) (out_pay m c s f w hw fd))) $$ [Hs' Hd' Ht]
  · isplitr; · iapply (inv_at m K (c, (kO s).succ)); iexact HR
    isplitl [Hs']; · iexact Hs'
    isplitl [Hd']; · iexact Hd'
    isplitl [Ht]; · iexact Ht
    iapply (reached_at m K (c, (kO s).succ)); iexact HR
  iexact Hk

/-! ## Loads and stores -/

omit [FloatOps F] in
/-- The elements a whole buffer names under some of its indices are those indices. -/
theorem setOn_whole_subset (b : Ref sig .tc) (M : Finset b.ty.Idx) : (View.whole b).setOn M ⊆ M := fun j hj => by
  obtain ⟨x, hx, rfl⟩ := Finset.mem_map.mp hj; exact hx

/-- A load of slot `s` of the communication buffer reads its owner's block; -/
theorem step_load_slot {kv : Vec F S1x1536x768 .bf16 → Prog (TpuEff nD τ sig (Elt F) Λ₀ .tc) α} {Q : α → sProp 𝕄} (s : Fin 4) (q : PosShare TreeShare)
    {hl : cM.view.LoadsAt (slotR s).toLoadRect} :
    slotPts c s q (commF m c)
      ⊢ iprop((slotPts c s q (commF m c) -∗ wp frame (wpE (defs₀ (F := F)) 𝒱₀ (c : Thread nD τ) none) Set.univ (kv (slotV m c s)) Q) -∗ wp frame (wpE (defs₀ (F := F)) 𝒱₀ (c : Thread nD τ) none) Set.univ (.op (.load cM (slotR s).toLoadRect hl) kv) Q) := by
  unfold slotPts
  rw [← read_slot m c s]
  exact wp_load 𝒱₀ (c : Thread nD τ) none Set.univ (m := cM) (r := (slotR s).toLoadRect) (S := (slotR s).set) (q := q) (f := commF m c)
    (setOn_whole_subset cc0_scratch0 (slotR s).set)
/-- of half of slot 3 likewise; -/
theorem step_load_half {kv : Vec F S1x768x768 .bf16 → Prog (TpuEff nD τ sig (Elt F) Λ₀ .tc) α} {Q : α → sProp 𝕄} (h : Fin 2) (q : PosShare TreeShare)
    {hl : cM.view.LoadsAt (halfR 3 h).toLoadRect} :
    halfPts c 3 h q (commF m c)
      ⊢ iprop((halfPts c 3 h q (commF m c) -∗ wp frame (wpE (defs₀ (F := F)) 𝒱₀ (c : Thread nD τ) none) Set.univ (kv (halfV m c h)) Q) -∗ wp frame (wpE (defs₀ (F := F)) 𝒱₀ (c : Thread nD τ) none) Set.univ (.op (.load cM (halfR 3 h).toLoadRect hl) kv) Q) := by
  unfold halfPts
  rw [← read_half m c h]
  exact wp_load 𝒱₀ (c : Thread nD τ) none Set.univ (m := cM) (r := (halfR 3 h).toLoadRect) (S := (halfR 3 h).set) (q := q) (f := commF m c)
    (setOn_whole_subset cc0_scratch0 (halfR 3 h).set)
/-- of slot 0 before its store, whatever it holds; -/
theorem step_load_old {kv : Vec F S1x1536x768 .bf16 → Prog (TpuEff nD τ sig (Elt F) Λ₀ .tc) α} {Q : α → sProp 𝕄} (f : Buf (Elt F) ((c : Thread nD τ).loc cc0_scratch0))
    {hl : cM.view.LoadsAt (slotR 0).toLoadRect} :
    slotPts c 0 fullShare f
      ⊢ iprop((slotPts c 0 fullShare f -∗ wp frame (wpE (defs₀ (F := F)) 𝒱₀ (c : Thread nD τ) none) Set.univ (kv (cM.view.readAt (Elt F) (slotR 0).toLoadRect f)) Q) -∗ wp frame (wpE (defs₀ (F := F)) 𝒱₀ (c : Thread nD τ) none) Set.univ (.op (.load cM (slotR 0).toLoadRect hl) kv) Q) := by
  unfold slotPts
  exact wp_load 𝒱₀ (c : Thread nD τ) none Set.univ (m := cM) (r := (slotR 0).toLoadRect) (S := (slotR 0).set) (q := fullShare) (f := f)
    (setOn_whole_subset cc0_scratch0 (slotR 0).set)
/-- of a staging slot before its store; and of half of it. -/
theorem step_load_stage {kv : Vec F S1x1536x1536 .bf16 → Prog (TpuEff nD τ sig (Elt F) Λ₀ .tc) α} {Q : α → sProp 𝕄} (s : Fin 2) (f : Buf (Elt F) ((c : Thread nD τ).loc cc0_scratch1))
    {hl : tM.view.LoadsAt (stageR s).toLoadRect} :
    stagePts c s f
      ⊢ iprop((stagePts c s f -∗ wp frame (wpE (defs₀ (F := F)) 𝒱₀ (c : Thread nD τ) none) Set.univ (kv (tM.view.readAt (Elt F) (stageR s).toLoadRect f)) Q) -∗ wp frame (wpE (defs₀ (F := F)) 𝒱₀ (c : Thread nD τ) none) Set.univ (.op (.load tM (stageR s).toLoadRect hl) kv) Q) := by
  unfold stagePts
  exact wp_load 𝒱₀ (c : Thread nD τ) none Set.univ (m := tM) (r := (stageR s).toLoadRect) (S := (stageR s).set) (q := fullShare) (f := f)
    (setOn_whole_subset cc0_scratch1 (stageR s).set)

omit [FloatOps F] in
theorem stageHalf_subset (h : Fin 2) : (stageHalfR h).set ⊆ (stageR 1).set := fun i hi => by
  rw [mem_stageHalf] at hi; rw [mem_stage]; exact hi.1

theorem step_load_stageHalf {kv : Vec F S1x768x1536 .bf16 → Prog (TpuEff nD τ sig (Elt F) Λ₀ .tc) α} {Q : α → sProp 𝕄} (h : Fin 2) (f : Buf (Elt F) ((c : Thread nD τ).loc cc0_scratch1))
    {hl : tM.view.LoadsAt (stageHalfR h).toLoadRect} :
    stagePts c 1 f
      ⊢ iprop((stagePts c 1 f -∗ wp frame (wpE (defs₀ (F := F)) 𝒱₀ (c : Thread nD τ) none) Set.univ (kv (tM.view.readAt (Elt F) (stageHalfR h).toLoadRect f)) Q) -∗ wp frame (wpE (defs₀ (F := F)) 𝒱₀ (c : Thread nD τ) none) Set.univ (.op (.load tM (stageHalfR h).toLoadRect hl) kv) Q) := by
  unfold stagePts
  exact wp_load 𝒱₀ (c : Thread nD τ) none Set.univ (m := tM) (r := (stageHalfR h).toLoadRect) (S := (stageR 1).set) (q := fullShare) (f := f)
    ((setOn_whole_subset cc0_scratch1 (stageHalfR h).set).trans (stageHalf_subset h))

omit [FloatOps F] in
theorem wand_swap {A P P' W V : sProp 𝕄} (e : P = P') (h : A ⊢ iprop((P -∗ W) -∗ V)) : A ⊢ iprop((P' -∗ W) -∗ V) := e ▸ h

/-- The store of a device's own block makes slot 0 what it is to be. -/
theorem step_store_slot0 {Q : α → sProp 𝕄} (f : Buf (Elt F) ((c : Thread nD τ).loc cc0_scratch0))
    (w : Vec F S1x1536x768 .bf16) (hw : w = k0_pay1 (blkA m c)) {hx : (cM.access (slotR 0)).Stores Finset.univ} {hm} :
    slotPts c 0 fullShare f
      ⊢ iprop((slotPts c 0 fullShare (commF m c) -∗ wp frame (wpE (defs₀ (F := F)) 𝒱₀ (c : Thread nD τ) none) Set.univ (k ⟨⟩) Q) -∗ wp frame (wpE (defs₀ (F := F)) 𝒱₀ (c : Thread nD τ) none) Set.univ (.op (.store cM (slotR 0) w Finset.univ hx hm) k) Q) := by
  have e : ((c : Thread nD τ).loc cc0_scratch0 ↦[(slotR 0).set]{fullShare} ((cM.access (slotR 0) : View sig .tc _ _ _).write (Elt F) f w Finset.univ) : sProp 𝕄)
      = ((c : Thread nD τ).loc cc0_scratch0 ↦[(slotR 0).set]{fullShare} commF m c) := by
    subst hw; exact pointsTo_congr fun j hj => write_slot0 m c f j hj
  clear hw
  unfold slotPts
  exact wand_swap e (wp_store 𝒱₀ (c : Thread nD τ) none Set.univ (m := cM) (r := slotR 0) (w := w) (Mk := Finset.univ) (S := (slotR 0).set) (f := f)
    (View.set_slice_whole cc0_scratch0 (slotR 0)).subset)
/-- The store of a product into a staging slot; and of half a product into slot 1. -/
theorem step_store_stage {Q : α → sProp 𝕄} (s : Fin 2) (f : Buf (Elt F) ((c : Thread nD τ).loc cc0_scratch1)) (w : Vec F S1x1536x1536 .bf16)
    {hx : (tM.access (stageR s)).Stores Finset.univ} {hm} :
    stagePts c s f
      ⊢ iprop((stagePts c s ((tM.access (stageR s) : View sig .tc _ _ _).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store tM (stageR s) w Finset.univ hx hm) k) Q) := by
  unfold stagePts
  exact wp_store 𝒱₀ (c : Thread nD τ) none Set.univ (m := tM) (r := stageR s) (w := w) (Mk := Finset.univ) (S := (stageR s).set) (f := f)
    (View.set_slice_whole cc0_scratch1 (stageR s)).subset
theorem step_store_stageHalf {Q : α → sProp 𝕄} (h : Fin 2) (f : Buf (Elt F) ((c : Thread nD τ).loc cc0_scratch1)) (w : Vec F S1x768x1536 .bf16)
    {hx : (tM.access (stageHalfR h)).Stores Finset.univ} {hm} :
    stagePts c 1 f
      ⊢ iprop((stagePts c 1 ((tM.access (stageHalfR h) : View sig .tc _ _ _).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store tM (stageHalfR h) w Finset.univ hx hm) k) Q) := by
  unfold stagePts
  exact wp_store 𝒱₀ (c : Thread nD τ) none Set.univ (m := tM) (r := stageHalfR h) (w := w) (Mk := Finset.univ) (S := (stageR 1).set) (f := f)
    ((View.set_slice_whole cc0_scratch1 (stageHalfR h)).subset.trans (stageHalf_subset h))

end Rules

end Cert.AllGather

end
-- ==== Proof.Waits.lean ====
/-
The waits on the three kinds of DMA semaphores of the kernel, and the copy of a finished row block.

A send semaphore gives back the share lent, a receive semaphore brings half a slot filled with its owner's block, and an
out semaphore brings the finished row block of the result and frees its staging slot.
-/
module

public import proofs.«01_k».proof.Proof.Steps

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The halves of slots all count the same, and so do the row blocks of the result. -/
theorem half_credit (v : Memref sig .tc .vmem S768x768 .bf16) : v.view.dmaCredit = N := rfl
theorem out_credit (v : Memref sig .tc .hbm S1536x1536 .bf16) : v.view.dmaCredit = NO := rfl

/-- The staging slot of row block `s` holds that row block. -/
def ready (c : Dev nD) (s : Fin 4) : sProp 𝕄 :=
  iprop(∃ f : Buf (Elt F) ((c : Thread nD τ).loc cc0_scratch1), ⌜(stageM (stk s)).view.read (Elt F) f = resV m c s⌝ ∗ stagePts c (stk s) f)

/-- Staging slot `k` is device `c`'s to fill. -/
def free (c : Dev nD) (k : Fin 2) : sProp 𝕄 := iprop(∃ f : Buf (Elt F) ((c : Thread nD τ).loc cc0_scratch1), stagePts c k f)

section Rules
variable (K : Dev nD × Fin 17 → ℕ) (c : Dev nD) {α : Type} {k : PUnit → Prog (TpuEff nD τ sig (Elt F) Λ₀ .tc) α}

/-- The wait for copy `i` to have read its source. -/
theorem wait_send {Q : α → sProp 𝕄} (i : Fin 6) {sp' : Space} {s' : Shape} {e' : EltTy} {src : Memref sig .tc sp' s' e'} {dst : Memref sig .tc .vmem S768x768 .bf16}
    {hsrc : src.view.WordExact} {hdst : dst.view.WordExact} (q : DmaSem sig) (hq : SemLoc.dma q = osem (kS i)) :
    iprop(records m K ∗ levAts L lv ∗ cred (tallyAt (sendCell c i) () N) ∗ ow c 0 ∗ atPos ER (sendCell c i) 0 ∅ 0)
      ⊢ iprop(((ow c 0 ∗ semVal (sendCell c i) 0 ∗ halfPts c (sslot i) (half i) (sh i) (commF m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  have h := step_wait m K c (k := k) (Q := Q) (kS i) (src := src) (dst := dst) (hsrc := hsrc) (hdst := hdst) q hq ((half_credit dst).trans (amt_send i).symm) 0 (mayWait_none c _)
  rw [amt_send, pay_send] at h
  exact h

/-- The wait for copy `i` of the neighbour to have landed. -/
theorem wait_recv {Q : α → sProp 𝕄} (i : Fin 6) (s : Fin 4) (hs : dslot i = s) (h' : Fin 2) (hh : half i = h') {sp' : Space} {s' : Shape} {e' : EltTy} {src : Memref sig .tc sp' s' e'} {dst : Memref sig .tc .vmem S768x768 .bf16}
    {hsrc : src.view.WordExact} {hdst : dst.view.WordExact} (q : DmaSem sig) (hq : SemLoc.dma q = osem (kR i))
    (O : CellTallies nD τ sig Unit) (hO : (levAts L lv : sProp 𝕄) ⊢ MayWait (c : Thread nD τ) (.dma (recvS i)) () O) :
    iprop(records m K ∗ levAts L lv ∗ cred (tallyAt (recvCell c i) () N) ∗ ow c O ∗ atPos ER (recvCell c i) 0 ∅ 0)
      ⊢ iprop(((ow c O ∗ semVal (recvCell c i) 0 ∗ halfPts c s h' fullShare (commF m c)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hs; subst hh
  have h := step_wait m K c (k := k) (Q := Q) (kR i) (src := src) (dst := dst) (hsrc := hsrc) (hdst := hdst) q hq ((half_credit dst).trans (amt_recv i).symm) O hO
  rw [amt_recv, pay_recv] at h
  exact h

/-- The wait for row block `s` of the result to be written. -/
theorem wait_out {Q : α → sProp 𝕄} (s : Fin 4) (k' : Fin 2) (hk : stk s = k') {sp' : Space} {s' : Shape} {e' : EltTy} {src : Memref sig .tc sp' s' e'} {dst : Memref sig .tc .hbm S1536x1536 .bf16}
    {hsrc : src.view.WordExact} {hdst : dst.view.WordExact} (q : DmaSem sig) (hq : SemLoc.dma q = osem (kO s)) :
    iprop(records m K ∗ levAts L lv ∗ cred (tallyAt (outCell c s) () NO) ∗ ow c 0 ∗ atPos ER (outCell c s) 0 ∅ 0)
      ⊢ iprop(((ow c 0 ∗ semVal (outCell c s) 0 ∗ outPts c s (outF m c) ∗ free c k') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hk
  have h := step_wait m K c (k := k) (Q := Q) (kO s) (src := src) (dst := dst) (hsrc := hsrc) (hdst := hdst) q hq ((out_credit dst).trans (amt_out s).symm) 0 (mayWait_none c _)
  rw [amt_out, pay_out] at h
  exact h

/-- The copy of a row block that is ready. -/
theorem copy_out {Q : α → sProp 𝕄} (s : Fin 4) {dst : Memref sig .tc .hbm S1536x1536 .bf16} (hd : dst = outM (owner c s))
    {hsrc : (stageM (stk s)).view.WordExact} {hdst : dst.view.WordExact}
    {hsem : DmaTarget.Typed (nD := nD) (τ := τ) (p := .tc) .vmem (.dma (outS s)) (.here dst)} (fd : Buf (Elt F) ((c : Thread nD τ).loc main_v1)) :
    iprop(records m K ∗ ready m c s ∗ outPts c s fd ∗ dutyTok ER (outCell c s) 0 false)
      ⊢ iprop((cred (tallyAt (outCell c s) () NO) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (stageM (stk s)) (.here dst) (.dma (outS s)) hsrc hdst hsem) k) Q) := by
  unfold ready
  iintro ⟨HR, ⟨%f, %hf, Hs⟩, Hd, Ht⟩
  iapply (step_out m K c s hd f _ rfl hf fd)
  isplitl [HR]; · iexact HR
  isplitl [Hs]; · iexact Hs
  isplitl [Hd]; · iexact Hd
  iexact Ht

end Rules

/-! ## What makes a row block ready -/

/-- The product of slot `s`, stored; -/
theorem ready_stage (c : Dev nD) (s : Fin 4) (hs : s ≠ 3) (k : Fin 2) (hk : k = stk s) (f : Buf (Elt F) ((c : Thread nD τ).loc cc0_scratch1)) (w : Vec F S1x1536x1536 .bf16)
    (hw : w = prodV (slotV m c s) (blkB m c)) :
    stagePts c k ((tM.access (stageR k) : View sig .tc _ _ _).write (Elt F) f w Finset.univ) ⊢ ready m c s := by
  subst hk
  unfold ready
  iintro H
  iexists _
  isplitr
  · ipureintro
    funext x
    refine (read_stage (stk s) f w x).trans ?_
    subst hw
    unfold resV; rw [if_neg hs]
  · iexact H
/-- the two half products of slot 3. -/
theorem ready_halves (c : Dev nD) (f : Buf (Elt F) ((c : Thread nD τ).loc cc0_scratch1)) (w0 w1 : Vec F S1x768x1536 .bf16)
    (h0 : w0 = prodH (halfV m c 0) (blkB m c)) (h1 : w1 = prodH (halfV m c 1) (blkB m c)) :
    stagePts c 1 ((tM.access (stageHalfR 1) : View sig .tc _ _ _).write (Elt F)
        ((tM.access (stageHalfR 0) : View sig .tc _ _ _).write (Elt F) f w0 Finset.univ) w1 Finset.univ) ⊢ ready m c 3 := by
  unfold ready
  iintro H
  iexists _
  isplitr
  · ipureintro
    funext x
    refine (read_stage_halves f w0 w1 x).trans ?_
    subst h0; subst h1
    unfold resV; rw [if_pos rfl]
  · iexact H

end Cert.AllGather

end
-- ==== Proof.Parts.lean ====
/-
The first three parts of the kernel: the device's own block, the entry handshake, the copies to the neighbours, and
the product of the device's own block.
-/
module

public import proofs.«01_k».proof.Proof.Waits

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The two operands in a device's own memory. -/
def aPts (c : Dev nD) : sProp 𝕄 := iprop((c : Thread nD τ).loc cc0_stg0_0 ↦{fullShare} (blkA m c : Buf (Elt F) ((c : Thread nD τ).loc cc0_stg0_0)))
def bPts (c : Dev nD) : sProp 𝕄 := iprop((c : Thread nD τ).loc cc0_stg1_0 ↦{fullShare} (blkB m c : Buf (Elt F) ((c : Thread nD τ).loc cc0_stg1_0)))

omit [FloatOps F] in
theorem load_swap {β : Type} {v v' : β} {A P V : sProp 𝕄} {W : β → sProp 𝕄} (e : v = v') (h : A ⊢ iprop((P -∗ W v) -∗ V)) : A ⊢ iprop((P -∗ W v') -∗ V) := e ▸ h

theorem load_a (c : Dev nD) {α : Type} {kv : Vec F S1536x768 .bf16 → Prog (TpuEff nD τ sig (Elt F) Λ₀ .tc) α} {Q : α → sProp 𝕄} {p}
    {hl : aM.view.LoadsAt (Rect.unit (s := S1536x768) ![0, 0] S1536x768.size p).toLoadRect} :
    aPts m c ⊢ iprop((aPts m c -∗ wp frame (wpE (defs₀ (F := F)) 𝒱₀ (c : Thread nD τ) none) Set.univ (kv (blkA m c)) Q) -∗ wp frame (wpE (defs₀ (F := F)) 𝒱₀ (c : Thread nD τ) none) Set.univ (.op (.load aM (Rect.unit (s := S1536x768) ![0, 0] S1536x768.size p).toLoadRect hl) kv) Q) := by
  unfold aPts
  exact load_swap (W := fun v => wp frame (wpE (defs₀ (F := F)) 𝒱₀ (c : Thread nD τ) none) Set.univ (kv v) Q) (read_a (blkA m c) p)
    (wp_load 𝒱₀ (c : Thread nD τ) none Set.univ (m := aM) (r := (Rect.unit (s := S1536x768) ![0, 0] S1536x768.size p).toLoadRect) (S := Finset.univ) (q := fullShare) (f := blkA m c)
      (Finset.subset_univ _))
theorem load_b (c : Dev nD) {α : Type} {kv : Vec F S768x1536 .bf16 → Prog (TpuEff nD τ sig (Elt F) Λ₀ .tc) α} {Q : α → sProp 𝕄} {p}
    {hl : bM.view.LoadsAt (Rect.unit (s := S768x1536) ![0, 0] S768x1536.size p).toLoadRect} :
    bPts m c ⊢ iprop((bPts m c -∗ wp frame (wpE (defs₀ (F := F)) 𝒱₀ (c : Thread nD τ) none) Set.univ (kv (blkB m c)) Q) -∗ wp frame (wpE (defs₀ (F := F)) 𝒱₀ (c : Thread nD τ) none) Set.univ (.op (.load bM (Rect.unit (s := S768x1536) ![0, 0] S768x1536.size p).toLoadRect hl) kv) Q) := by
  unfold bPts
  exact load_swap (W := fun v => wp frame (wpE (defs₀ (F := F)) 𝒱₀ (c : Thread nD τ) none) Set.univ (kv v) Q) (read_b (blkB m c) p)
    (wp_load 𝒱₀ (c : Thread nD τ) none Set.univ (m := bM) (r := (Rect.unit (s := S768x1536) ![0, 0] S768x1536.size p).toLoadRect) (S := Finset.univ) (q := fullShare) (f := blkB m c)
      (Finset.subset_univ _))

/-- The first part puts the device's own block in slot 0 and loads the right operand. -/
theorem run_part1 (c : Dev nD) (f : Buf (Elt F) ((c : Thread nD τ).loc cc0_scratch0))
    {Q : (Σ' (d0 : Dev nD) (v2 : BitVec 32) (v13 : BitVec 32) (v24 : BitVec 32) (v31 : FVec F S768x1536 .bf16) (v32 : Sems sig S_), BitVec 32) → sProp 𝕄} :
    iprop(aPts m c ∗ bPts m c ∗ slotPts c 0 fullShare f)
      ⊢ iprop((∀ (v2 v13 v24 : BitVec 32), (aPts m c ∗ bPts m c ∗ slotPts c 0 fullShare (commF m c)) -∗ Q ⟨c, v2, v13, v24, k0_pay2 (blkB m c), SemArray.scalar (sig.barrier 0 rfl), 1#32⟩)
          -∗ wp frame (wpE (defs₀ (F := F)) 𝒱₀ (c : Thread nD τ) none) Set.univ (k0_part1 aM (Memref.isWhole_whole _) bM (Memref.isWhole_whole _) oM (Memref.isWhole_whole _) cM (Memref.isWhole_whole _) tM (Memref.isWhole_whole _) cc0_scratch2 cc0_scratch3 cc0_scratch4) Q) := by
  simp only [k0_part1_eq_skeleton]; unfold k0_part1_skel
  simp only [semSignalWord, semWaitWord, Prog.lift, Prog.bind_op, Prog.bind_ret, Prog.pure_eq_ret, Prog.bind_assoc, wp_deviceId]
  iintro ⟨Ha, Hb, Hs⟩ Hk
  iapply (load_a m c) $$ Ha; iintro Ha
  iapply (step_load_old c f) $$ Hs; iintro Hs
  iapply (step_store_slot0 m c f _ rfl) $$ Hs; iintro Hs
  iapply (load_b m c) $$ Hb; iintro Hb
  rw [wp_ret]; imodintro
  iapply Hk
  isplitl [Ha]; · iexact Ha
  isplitl [Hb]; · iexact Hb
  iexact Hs

/-- The second part shakes hands with both neighbours and starts copies 0 and 2. -/
theorem run_part2 (K : Dev nD × Fin 17 → ℕ) (c : Dev nD) (v13 v24 w : BitVec 32) {Q : BitVec 32 → sProp 𝕄} :
    iprop(records m K ∗ levAts L lv ∗ ow c (O₀ c) ∗ dutyTok ER (barCell (prv c)) 0 true ∗ dutyTok ER (barCell (nxt c)) 0 false
        ∗ barPayT (prv c) ∗ barPayF (nxt c) ∗ cred (tallyAt (barCell c) () 2) ∗ atPos ER (barCell c) 0 ∅ 0
        ∗ halfPts c 0 0 (sh 0) (commF m c) ∗ dutyTok ER (sendCell c 0) 0 false ∗ dutyTok ER (recvCell (dest 0 c) 0) 0 false
        ∗ halfPts c 0 1 (sh 2) (commF m c) ∗ dutyTok ER (sendCell c 2) 0 false ∗ dutyTok ER (recvCell (dest 2 c) 2) 0 false)
      ⊢ iprop((∀ r : BitVec 32, (ow c (OT1 c) ∗ semVal (barCell c) 0 ∗ give c 1 ∗ give c 3 ∗ give c 4 ∗ give c 5
              ∗ cred (tallyAt (sendCell c 0) () N) ∗ cred (tallyAt (sendCell c 2) () N)) -∗ Q r)
          -∗ wp frame (wpE (defs₀ (F := F)) 𝒱₀ (c : Thread nD τ) none) Set.univ (k0_part2 aM (Memref.isWhole_whole _) bM (Memref.isWhole_whole _) oM (Memref.isWhole_whole _) cM (Memref.isWhole_whole _) tM (Memref.isWhole_whole _) cc0_scratch2 cc0_scratch3 cc0_scratch4 c v13 v24 (SemArray.scalar (sig.barrier 0 rfl)) w) Q) := by
  simp only [k0_part2_eq_skeleton]; unfold k0_part2_skel
  simp only [semSignalWord, semWaitWord, Prog.lift, Prog.bind_op, Prog.bind_ret, Prog.pure_eq_ret, Prog.bind_assoc, wp_deviceId]
  iintro ⟨#HR, #Hlev, HO, HtP, HtN, HpT, HpF, HcB, HaB, Hh0, Hs0, Hr0, Hh2, Hs2, Hr2⟩ Hk
  iapply (step_signal_prv m K c _ (dev1_eq c) (OB c)) $$ [HO HtP HpT]
  · isplitr; · iexact HR
    isplitl [HO]; · iexact HO
    isplitl [HtP] <;> iassumption
  iintro HO
  iapply (step_signal_nxt m K c _ (dev2_eq c) (OT0 c)) $$ [HO HtN HpF]
  · isplitr; · iexact HR
    isplitl [HO]; · iexact HO
    isplitl [HtN] <;> iassumption
  iintro HO
  iapply (step_wait_bar m K c) $$ [HO HcB HaB]
  · isplitr; · iexact HR
    isplitr; · iexact Hlev
    isplitl [HcB]; · iexact HcB
    isplitl [HO] <;> iassumption
  unfold barPayF barPayT
  iintro ⟨HO, HzB, ⟨Hg2, Hg3, Hg5⟩, ⟨Hg0, Hg1, Hg4⟩⟩
  iapply (step_send m K c 0 _ (dev3_eq c) (OT2 c)) $$ [HO Hh0 Hg0 Hs0 Hr0]
  · isplitr; · iexact HR
    isplitl [HO]; · iexact HO
    isplitl [Hh0]; · iexact Hh0
    isplitl [Hg0]; · iexact Hg0
    isplitl [Hs0] <;> iassumption
  iintro ⟨HO, Hc0⟩
  iapply (step_send m K c 2 _ (dev4_eq c) (OT1 c)) $$ [HO Hh2 Hg2 Hs2 Hr2]
  · isplitr; · iexact HR
    isplitl [HO]; · iexact HO
    isplitl [Hh2]; · iexact Hh2
    isplitl [Hg2]; · iexact Hg2
    isplitl [Hs2] <;> iassumption
  iintro ⟨HO, Hc2⟩
  rw [wp_ret]; imodintro
  iapply Hk
  isplitl [HO]; · iexact HO
  isplitl [HzB]; · iexact HzB
  isplitl [Hg1]; · iexact Hg1
  isplitl [Hg3]; · iexact Hg3
  isplitl [Hg4]; · iexact Hg4
  isplitl [Hg5]; · iexact Hg5
  isplitl [Hc0] <;> iassumption

/-- The third part starts copies 1 and 3, and multiplies the device's own block. -/
theorem run_part3 (K : Dev nD × Fin 17 → ℕ) (c : Dev nD) (q : PosShare TreeShare) (v2 v13 v24 w : BitVec 32) {Q : PUnit → sProp 𝕄} :
    iprop(records m K ∗ ow c (OT1 c) ∗ give c 1 ∗ give c 3
        ∗ halfPts c 0 1 (sh 1) (commF m c) ∗ dutyTok ER (sendCell c 1) 0 false ∗ dutyTok ER (recvCell (dest 1 c) 1) 0 false
        ∗ halfPts c 0 0 (sh 3) (commF m c) ∗ dutyTok ER (sendCell c 3) 0 false ∗ dutyTok ER (recvCell (dest 3 c) 3) 0 false
        ∗ slotPts c 0 q (commF m c) ∗ free c 0)
      ⊢ iprop(((ow c (OT4 c) ∗ cred (tallyAt (sendCell c 1) () N) ∗ cred (tallyAt (sendCell c 3) () N) ∗ slotPts c 0 q (commF m c) ∗ ready m c 0) -∗ Q ⟨⟩)
          -∗ wp frame (wpE (defs₀ (F := F)) 𝒱₀ (c : Thread nD τ) none) Set.univ (k0_part3 aM (Memref.isWhole_whole _) bM (Memref.isWhole_whole _) oM (Memref.isWhole_whole _) cM (Memref.isWhole_whole _) tM (Memref.isWhole_whole _) cc0_scratch2 cc0_scratch3 cc0_scratch4 c v2 v13 v24 (k0_pay2 (blkB m c)) w) Q) := by
  simp only [k0_part3_eq_skeleton]; unfold k0_part3_skel free
  simp only [semSignalWord, semWaitWord, Prog.lift, Prog.bind_op, Prog.bind_ret, Prog.pure_eq_ret, Prog.bind_assoc, wp_deviceId]
  iintro ⟨#HR, HO, Hg1, Hg3, Hh1, Hs1, Hr1, Hh3, Hs3, Hr3, Hq, ⟨%f, Hst⟩⟩ Hk
  iapply (step_send m K c 1 _ (dev5_eq c) (OT3 c)) $$ [HO Hh1 Hg1 Hs1 Hr1]
  · isplitr; · iexact HR
    isplitl [HO]; · iexact HO
    isplitl [Hh1]; · iexact Hh1
    isplitl [Hg1]; · iexact Hg1
    isplitl [Hs1] <;> iassumption
  iintro ⟨HO, Hc1⟩
  iapply (step_send m K c 3 _ (dev6_eq c) (OT4 c)) $$ [HO Hh3 Hg3 Hs3 Hr3]
  · isplitr; · iexact HR
    isplitl [HO]; · iexact HO
    isplitl [Hh3]; · iexact Hh3
    isplitl [Hg3]; · iexact Hg3
    isplitl [Hs3] <;> iassumption
  iintro ⟨HO, Hc3⟩
  iapply (step_load_slot m c 0 q) $$ Hq; iintro Hq
  iapply (step_load_stage c 0 f) $$ Hst; iintro Hst
  iapply (step_store_stage c 0 f _) $$ Hst; iintro Hst
  ihave Hst := (ready_stage m c 0 (by decide) 0 rfl f (k0_pay3 (k0_pay2 (blkB m c)) (slotV m c 0)) rfl) $$ Hst
  rw [wp_ret]; imodintro
  iapply Hk
  isplitl [HO]; · iexact HO
  isplitl [Hc1]; · iexact Hc1
  isplitl [Hc3]; · iexact Hc3
  isplitl [Hq]; · iexact Hq
  iexact Hst

end Cert.AllGather

end
-- ==== Proof.Parts2.lean ====
/-
The remaining parts of the kernel: blocks arrive, are passed on, multiplied and written to the result.
-/
module

public import proofs.«01_k».proof.Proof.Parts

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The row blocks of the result the kernel copies to. -/
theorem dst0_eq (c : Dev nD) (p) : oM.slice (Rect.unit (s := S6144x1536) (k0_off1 c) S1536x1536.size p) (fun _ => rfl) = outM (owner c 0) :=
  Memref.slice_unit_congr oM (off1_eq c) _ _ (fun _ => rfl) (fun _ => rfl)
theorem dst1_eq (c : Dev nD) (p) : oM.slice (Rect.unit (s := S6144x1536) (k0_off2 c) S1536x1536.size p) (fun _ => rfl) = outM (owner c 1) :=
  Memref.slice_unit_congr oM (off2_eq c) _ _ (fun _ => rfl) (fun _ => rfl)
theorem dst2_eq (c : Dev nD) (p) : oM.slice (Rect.unit (s := S6144x1536) (k0_off3 c 1#32) S1536x1536.size p) (fun _ => rfl) = outM (owner c 2) :=
  Memref.slice_unit_congr oM (off3_eq c) _ _ (fun _ => rfl) (fun _ => rfl)
theorem dst3_eq (c : Dev nD) (p) : oM.slice (Rect.unit (s := S6144x1536) (k0_off3 c 2#32) S1536x1536.size p) (fun _ => rfl) = outM (owner c 3) :=
  Memref.slice_unit_congr oM (off4_eq c) _ _ (fun _ => rfl) (fun _ => rfl)

/-- The fourth part copies out the product of the own block, and passes the left neighbour's top half on. -/
theorem run_part4 (K : Dev nD × Fin 17 → ℕ) (c : Dev nD) (v13 v24 : BitVec 32) (fd : Buf (Elt F) ((c : Thread nD τ).loc main_v1)) {Q : PUnit → sProp 𝕄} :
    iprop(records m K ∗ levAts L lv ∗ ow c (OT4 c) ∗ ready m c 0 ∗ outPts c 0 fd ∗ dutyTok ER (outCell c 0) 0 false ∗ cred (tallyAt (recvCell c 0) () N) ∗ atPos ER (recvCell c 0) 0 ∅ 0 ∗ give c 4 ∗ dutyTok ER (sendCell c 4) 0 false ∗ dutyTok ER (recvCell (dest 4 c) 4) 0 false)
      ⊢ iprop(((ow c (OT5 c) ∗ cred (tallyAt (outCell c 0) () NO) ∗ semVal (recvCell c 0) 0 ∗ halfPts c 1 0 fullShare.right (commF m c) ∗ cred (tallyAt (sendCell c 4) () N)) -∗ Q ⟨⟩)
          -∗ wp frame (wpE (defs₀ (F := F)) 𝒱₀ (c : Thread nD τ) none) Set.univ (k0_part4 aM (Memref.isWhole_whole _) bM (Memref.isWhole_whole _) oM (Memref.isWhole_whole _) cM (Memref.isWhole_whole _) tM (Memref.isWhole_whole _) cc0_scratch2 cc0_scratch3 cc0_scratch4 c v13 v24) Q) := by
  simp only [k0_part4_eq_skeleton]; unfold k0_part4_skel
  simp only [semSignalWord, semWaitWord, Prog.lift, Prog.bind_op, Prog.bind_ret, Prog.pure_eq_ret, Prog.bind_assoc, wp_deviceId]
  iintro ⟨#HR, #Hlev, HO, Hrd, Ho0, Ht0, HcR0, HaR0, Hg4, Hs4, Hr4⟩ Hk
  iapply (copy_out m K c 0 (dst0_eq c _) fd) $$ [Hrd Ho0 Ht0]
  · isplitr; · iexact HR
    isplitl [Hrd]; · iexact Hrd
    isplitl [Ho0] <;> iassumption
  iintro HcO0
  iapply (wait_recv m K c 0 1 rfl 0 rfl _ rfl (OT4 c) (mayWait_recv0 c)) $$ [HO HcR0 HaR0]
  · isplitr; · iexact HR
    isplitr; · iexact Hlev
    isplitl [HcR0]; · iexact HcR0
    isplitl [HO] <;> iassumption
  iintro ⟨HO, HzR0, Hv0⟩
  ihave Hv0 := (half_share c 1 0 fullShare (commF m c)) $$ Hv0
  icases Hv0 with ⟨Hh4, HvR⟩
  iapply (step_send m K c 4 _ (dev7_eq c) (OT5 c)) $$ [HO Hh4 Hg4 Hs4 Hr4]
  · isplitr; · iexact HR
    isplitl [HO]; · iexact HO
    isplitl [Hh4]; · iexact Hh4
    isplitl [Hg4]; · iexact Hg4
    isplitl [Hs4] <;> iassumption
  iintro ⟨HO, HcS4⟩
  rw [wp_ret]; imodintro
  iapply Hk
  isplitl [HO]; · iexact HO
  isplitl [HcO0]; · iexact HcO0
  isplitl [HzR0]; · iexact HzR0
  isplitl [HvR]; · iexact HvR
  iexact HcS4

/-- The fifth part passes the right neighbour's bottom half on, and multiplies the left neighbour's block. -/
theorem run_part5 (K : Dev nD × Fin 17 → ℕ) (c : Dev nD) (v13 v24 : BitVec 32) {Q : BitVec 32 → sProp 𝕄} :
    iprop(records m K ∗ levAts L lv ∗ ow c (OT5 c) ∗ cred (tallyAt (recvCell c 2) () N) ∗ atPos ER (recvCell c 2) 0 ∅ 0 ∗ give c 5 ∗ dutyTok ER (sendCell c 5) 0 false ∗ dutyTok ER (recvCell (dest 5 c) 5) 0 false ∗ cred (tallyAt (recvCell c 1) () N) ∗ atPos ER (recvCell c 1) 0 ∅ 0 ∗ halfPts c 1 0 fullShare.right (commF m c) ∗ free c 1)
      ⊢ iprop((∀ r : BitVec 32, (ow c 0 ∗ semVal (recvCell c 2) 0 ∗ semVal (recvCell c 1) 0 ∗ cred (tallyAt (sendCell c 5) () N) ∗ halfPts c 2 1 fullShare.right (commF m c) ∗ halfPts c 1 1 fullShare.left (commF m c) ∗ slotPts c 1 fullShare.right (commF m c) ∗ ready m c 1) -∗ Q r)
          -∗ wp frame (wpE (defs₀ (F := F)) 𝒱₀ (c : Thread nD τ) none) Set.univ (k0_part5 aM (Memref.isWhole_whole _) bM (Memref.isWhole_whole _) oM (Memref.isWhole_whole _) cM (Memref.isWhole_whole _) tM (Memref.isWhole_whole _) cc0_scratch2 cc0_scratch3 cc0_scratch4 c v13 v24 (k0_pay2 (blkB m c))) Q) := by
  simp only [k0_part5_eq_skeleton]; unfold k0_part5_skel
  simp only [semSignalWord, semWaitWord, Prog.lift, Prog.bind_op, Prog.bind_ret, Prog.pure_eq_ret, Prog.bind_assoc, wp_deviceId]
  iintro ⟨#HR, #Hlev, HO, HcR2, HaR2, Hg5, Hs5, Hr5, HcR1, HaR1, HvR, Hst⟩ Hk
  iapply (wait_recv m K c 2 2 rfl 1 rfl _ rfl (OT5 c) (mayWait_recv2 c)) $$ [HO HcR2 HaR2]
  · isplitr; · iexact HR
    isplitr; · iexact Hlev
    isplitl [HcR2]; · iexact HcR2
    isplitl [HO] <;> iassumption
  iintro ⟨HO, HzR2, Hv2⟩
  ihave Hv2 := (half_share c 2 1 fullShare (commF m c)) $$ Hv2
  icases Hv2 with ⟨Hh5, Hv2R⟩
  iapply (step_send m K c 5 _ (dev8_eq c) 0) $$ [HO Hh5 Hg5 Hs5 Hr5]
  · isplitr; · iexact HR
    isplitl [HO]; · iexact HO
    isplitl [Hh5]; · iexact Hh5
    isplitl [Hg5]; · iexact Hg5
    isplitl [Hs5] <;> iassumption
  iintro ⟨HO, HcS5⟩
  iapply (wait_recv m K c 1 1 rfl 1 rfl _ rfl 0 (mayWait_none c _)) $$ [HO HcR1 HaR1]
  · isplitr; · iexact HR
    isplitr; · iexact Hlev
    isplitl [HcR1]; · iexact HcR1
    isplitl [HO] <;> iassumption
  iintro ⟨HO, HzR1, Hv1⟩
  ihave Hv1 := (half_share c 1 1 fullShare (commF m c)) $$ Hv1
  icases Hv1 with ⟨Hv1L, Hv1R⟩
  ihave Hsl := (slot_join c 1 fullShare.right (commF m c)) $$ [HvR Hv1R]
  · isplitl [HvR] <;> iassumption
  unfold free
  icases Hst with ⟨%f, Hst⟩
  iapply (step_load_slot m c 1 fullShare.right) $$ Hsl; iintro Hsl
  iapply (step_load_stage c 1 f) $$ Hst; iintro Hst
  iapply (step_store_stage c 1 f _) $$ Hst; iintro Hst
  ihave Hst := (ready_stage m c 1 (by decide) 1 rfl f (k0_pay4 (k0_pay2 (blkB m c)) (slotV m c 1)) rfl) $$ Hst
  rw [wp_ret]; imodintro
  iapply Hk
  isplitl [HO]; · iexact HO
  isplitl [HzR2]; · iexact HzR2
  isplitl [HzR1]; · iexact HzR1
  isplitl [HcS5]; · iexact HcS5
  isplitl [Hv2R]; · iexact Hv2R
  isplitl [Hv1L]; · iexact Hv1L
  isplitl [Hsl]; · iexact Hsl
  iexact Hst

/-- The sixth part copies that product out, and multiplies the right neighbour's block. -/
theorem run_part6 (K : Dev nD × Fin 17 → ℕ) (c : Dev nD) (v13 v24 w : BitVec 32) (fd : Buf (Elt F) ((c : Thread nD τ).loc main_v1)) {Q : PUnit → sProp 𝕄} :
    iprop(records m K ∗ levAts L lv ∗ ow c 0 ∗ ready m c 1 ∗ outPts c 1 fd ∗ dutyTok ER (outCell c 1) 0 false ∗ cred (tallyAt (recvCell c 3) () N) ∗ atPos ER (recvCell c 3) 0 ∅ 0 ∗ cred (tallyAt (outCell c 0) () NO) ∗ atPos ER (outCell c 0) 0 ∅ 0 ∗ halfPts c 2 1 fullShare.right (commF m c))
      ⊢ iprop(((ow c 0 ∗ cred (tallyAt (outCell c 1) () NO) ∗ semVal (recvCell c 3) 0 ∗ semVal (outCell c 0) 0 ∗ outPts c 0 (outF m c) ∗ halfPts c 2 0 fullShare.left (commF m c) ∗ slotPts c 2 fullShare.right (commF m c) ∗ ready m c 2) -∗ Q ⟨⟩)
          -∗ wp frame (wpE (defs₀ (F := F)) 𝒱₀ (c : Thread nD τ) none) Set.univ (k0_part6 aM (Memref.isWhole_whole _) bM (Memref.isWhole_whole _) oM (Memref.isWhole_whole _) cM (Memref.isWhole_whole _) tM (Memref.isWhole_whole _) cc0_scratch2 cc0_scratch3 cc0_scratch4 c v13 v24 (k0_pay2 (blkB m c)) w) Q) := by
  simp only [k0_part6_eq_skeleton]; unfold k0_part6_skel
  simp only [semSignalWord, semWaitWord, Prog.lift, Prog.bind_op, Prog.bind_ret, Prog.pure_eq_ret, Prog.bind_assoc, wp_deviceId]
  iintro ⟨#HR, #Hlev, HO, Hrd, Ho1, Ht1, HcR3, HaR3, HcO0, HaO0, HvR⟩ Hk
  iapply (copy_out m K c 1 (dst1_eq c _) fd) $$ [Hrd Ho1 Ht1]
  · isplitr; · iexact HR
    isplitl [Hrd]; · iexact Hrd
    isplitl [Ho1] <;> iassumption
  iintro HcO1
  iapply (wait_recv m K c 3 2 rfl 0 rfl _ rfl 0 (mayWait_none c _)) $$ [HO HcR3 HaR3]
  · isplitr; · iexact HR
    isplitr; · iexact Hlev
    isplitl [HcR3]; · iexact HcR3
    isplitl [HO] <;> iassumption
  iintro ⟨HO, HzR3, Hv3⟩
  iapply (wait_out m K c 0 0 rfl _ rfl) $$ [HO HcO0 HaO0]
  · isplitr; · iexact HR
    isplitr; · iexact Hlev
    isplitl [HcO0]; · iexact HcO0
    isplitl [HO] <;> iassumption
  iintro ⟨HO, HzO0, Ho0, Hst0⟩
  ihave Hv3 := (half_share c 2 0 fullShare (commF m c)) $$ Hv3
  icases Hv3 with ⟨Hv3L, Hv3R⟩
  ihave Hsl := (slot_join c 2 fullShare.right (commF m c)) $$ [HvR Hv3R]
  · isplitl [Hv3R] <;> iassumption
  unfold free
  icases Hst0 with ⟨%f, Hst0⟩
  iapply (step_load_slot m c 2 fullShare.right) $$ Hsl; iintro Hsl
  iapply (step_load_stage c 0 f) $$ Hst0; iintro Hst0
  iapply (step_store_stage c 0 f _) $$ Hst0; iintro Hst0
  ihave Hst0 := (ready_stage m c 2 (by decide) 0 rfl f (k0_pay5 (k0_pay2 (blkB m c)) (slotV m c 2)) rfl) $$ Hst0
  rw [wp_ret]; imodintro
  iapply Hk
  isplitl [HO]; · iexact HO
  isplitl [HcO1]; · iexact HcO1
  isplitl [HzR3]; · iexact HzR3
  isplitl [HzO0]; · iexact HzO0
  isplitl [Ho0]; · iexact Ho0
  isplitl [Hv3L]; · iexact Hv3L
  isplitl [Hsl]; · iexact Hsl
  iexact Hst0

/-- The seventh part copies that product out, and waits for the second product to be written and the top half of the far block. -/
theorem run_part7 (K : Dev nD × Fin 17 → ℕ) (c : Dev nD) (v2 v24 : BitVec 32) (fd : Buf (Elt F) ((c : Thread nD τ).loc main_v1)) {Q : BitVec 32 → sProp 𝕄} :
    iprop(records m K ∗ levAts L lv ∗ ow c 0 ∗ ready m c 2 ∗ outPts c 2 fd ∗ dutyTok ER (outCell c 2) 0 false ∗ cred (tallyAt (outCell c 1) () NO) ∗ atPos ER (outCell c 1) 0 ∅ 0 ∗ cred (tallyAt (recvCell c 4) () N) ∗ atPos ER (recvCell c 4) 0 ∅ 0)
      ⊢ iprop((∀ r : BitVec 32, (ow c 0 ∗ cred (tallyAt (outCell c 2) () NO) ∗ semVal (outCell c 1) 0 ∗ outPts c 1 (outF m c) ∗ free c 1 ∗ semVal (recvCell c 4) 0 ∗ halfPts c 3 0 fullShare (commF m c)) -∗ Q r)
          -∗ wp frame (wpE (defs₀ (F := F)) 𝒱₀ (c : Thread nD τ) none) Set.univ (k0_part7 aM (Memref.isWhole_whole _) bM (Memref.isWhole_whole _) oM (Memref.isWhole_whole _) cM (Memref.isWhole_whole _) tM (Memref.isWhole_whole _) cc0_scratch2 cc0_scratch3 cc0_scratch4 c v2 v24) Q) := by
  simp only [k0_part7_eq_skeleton]; unfold k0_part7_skel
  simp only [semSignalWord, semWaitWord, Prog.lift, Prog.bind_op, Prog.bind_ret, Prog.pure_eq_ret, Prog.bind_assoc, wp_deviceId]
  iintro ⟨#HR, #Hlev, HO, Hrd, Ho2, Ht2, HcO1, HaO1, HcR4, HaR4⟩ Hk
  iapply (copy_out m K c 2 (dst2_eq c _) fd) $$ [Hrd Ho2 Ht2]
  · isplitr; · iexact HR
    isplitl [Hrd]; · iexact Hrd
    isplitl [Ho2] <;> iassumption
  iintro HcO2
  iapply (wait_out m K c 1 1 rfl _ rfl) $$ [HO HcO1 HaO1]
  · isplitr; · iexact HR
    isplitr; · iexact Hlev
    isplitl [HcO1]; · iexact HcO1
    isplitl [HO] <;> iassumption
  iintro ⟨HO, HzO1, Ho1, Hst1⟩
  iapply (wait_recv m K c 4 3 rfl 0 rfl _ rfl 0 (mayWait_none c _)) $$ [HO HcR4 HaR4]
  · isplitr; · iexact HR
    isplitr; · iexact Hlev
    isplitl [HcR4]; · iexact HcR4
    isplitl [HO] <;> iassumption
  iintro ⟨HO, HzR4, Hv4⟩
  rw [wp_ret]; imodintro
  iapply Hk
  isplitl [HO]; · iexact HO
  isplitl [HcO2]; · iexact HcO2
  isplitl [HzO1]; · iexact HzO1
  isplitl [Ho1]; · iexact Ho1
  isplitl [Hst1]; · iexact Hst1
  isplitl [HzR4]; · iexact HzR4
  iexact Hv4

/-- The eighth part multiplies the far block half by half, and copies the product out. -/
theorem run_part8 (K : Dev nD × Fin 17 → ℕ) (c : Dev nD) (v13 w : BitVec 32) (fd : Buf (Elt F) ((c : Thread nD τ).loc main_v1)) {Q : PUnit → sProp 𝕄} :
    iprop(records m K ∗ levAts L lv ∗ ow c 0 ∗ halfPts c 3 0 fullShare (commF m c) ∗ free c 1 ∗ cred (tallyAt (recvCell c 5) () N) ∗ atPos ER (recvCell c 5) 0 ∅ 0 ∗ outPts c 3 fd ∗ dutyTok ER (outCell c 3) 0 false)
      ⊢ iprop(((ow c 0 ∗ semVal (recvCell c 5) 0 ∗ halfPts c 3 0 fullShare (commF m c) ∗ halfPts c 3 1 fullShare (commF m c) ∗ cred (tallyAt (outCell c 3) () NO)) -∗ Q ⟨⟩)
          -∗ wp frame (wpE (defs₀ (F := F)) 𝒱₀ (c : Thread nD τ) none) Set.univ (k0_part8 aM (Memref.isWhole_whole _) bM (Memref.isWhole_whole _) oM (Memref.isWhole_whole _) cM (Memref.isWhole_whole _) tM (Memref.isWhole_whole _) cc0_scratch2 cc0_scratch3 cc0_scratch4 c v13 (k0_pay2 (blkB m c)) w) Q) := by
  simp only [k0_part8_eq_skeleton]; unfold k0_part8_skel
  simp only [semSignalWord, semWaitWord, Prog.lift, Prog.bind_op, Prog.bind_ret, Prog.pure_eq_ret, Prog.bind_assoc, wp_deviceId]
  iintro ⟨#HR, #Hlev, HO, Hv4, Hst, HcR5, HaR5, Ho3, Ht3⟩ Hk
  unfold free
  icases Hst with ⟨%f, Hst⟩
  iapply (step_load_half m c 0 fullShare) $$ Hv4; iintro Hv4
  iapply (step_load_stageHalf c 0 f) $$ Hst; iintro Hst
  iapply (step_store_stageHalf c 0 f _) $$ Hst; iintro Hst
  iapply (wait_recv m K c 5 3 rfl 1 rfl _ rfl 0 (mayWait_none c _)) $$ [HO HcR5 HaR5]
  · isplitr; · iexact HR
    isplitr; · iexact Hlev
    isplitl [HcR5]; · iexact HcR5
    isplitl [HO] <;> iassumption
  iintro ⟨HO, HzR5, Hv5⟩
  iapply (step_load_half m c 1 fullShare) $$ Hv5; iintro Hv5
  iapply (step_load_stageHalf c 1 _) $$ Hst; iintro Hst
  iapply (step_store_stageHalf c 1 _ _) $$ Hst; iintro Hst
  ihave Hrd := (ready_halves m c f (k0_pay6 (k0_pay2 (blkB m c)) (halfV m c 0)) (k0_pay7 (k0_pay2 (blkB m c)) (halfV m c 1)) rfl rfl) $$ Hst
  iapply (copy_out m K c 3 (dst3_eq c _) fd) $$ [Hrd Ho3 Ht3]
  · isplitr; · iexact HR
    isplitl [Hrd]; · iexact Hrd
    isplitl [Ho3] <;> iassumption
  iintro HcO3
  rw [wp_ret]; imodintro
  iapply Hk
  isplitl [HO]; · iexact HO
  isplitl [HzR5]; · iexact HzR5
  isplitl [Hv4]; · iexact Hv4
  isplitl [Hv5]; · iexact Hv5
  iexact HcO3

/-- The ninth part waits for the last two copies out and for the first two sends. -/
theorem run_part9 (K : Dev nD × Fin 17 → ℕ) (c : Dev nD)  {Q : PUnit → sProp 𝕄} :
    iprop(records m K ∗ levAts L lv ∗ ow c 0 ∗ cred (tallyAt (outCell c 2) () NO) ∗ atPos ER (outCell c 2) 0 ∅ 0 ∗ cred (tallyAt (outCell c 3) () NO) ∗ atPos ER (outCell c 3) 0 ∅ 0 ∗ cred (tallyAt (sendCell c 0) () N) ∗ atPos ER (sendCell c 0) 0 ∅ 0 ∗ cred (tallyAt (sendCell c 1) () N) ∗ atPos ER (sendCell c 1) 0 ∅ 0)
      ⊢ iprop(((ow c 0 ∗ semVal (outCell c 2) 0 ∗ outPts c 2 (outF m c) ∗ free c 0 ∗ semVal (outCell c 3) 0 ∗ outPts c 3 (outF m c) ∗ free c 1 ∗ semVal (sendCell c 0) 0 ∗ halfPts c 0 0 (sh 0) (commF m c) ∗ semVal (sendCell c 1) 0 ∗ halfPts c 0 1 (sh 1) (commF m c)) -∗ Q ⟨⟩)
          -∗ wp frame (wpE (defs₀ (F := F)) 𝒱₀ (c : Thread nD τ) none) Set.univ (k0_part9 aM (Memref.isWhole_whole _) bM (Memref.isWhole_whole _) oM (Memref.isWhole_whole _) cM (Memref.isWhole_whole _) tM (Memref.isWhole_whole _) cc0_scratch2 cc0_scratch3 cc0_scratch4 c) Q) := by
  simp only [k0_part9_eq_skeleton]; unfold k0_part9_skel
  simp only [semSignalWord, semWaitWord, Prog.lift, Prog.bind_op, Prog.bind_ret, Prog.pure_eq_ret, Prog.bind_assoc, wp_deviceId]
  iintro ⟨#HR, #Hlev, HO, HcO2, HaO2, HcO3, HaO3, HcS0, HaS0, HcS1, HaS1⟩ Hk
  iapply (wait_out m K c 2 0 rfl _ rfl) $$ [HO HcO2 HaO2]
  · isplitr; · iexact HR
    isplitr; · iexact Hlev
    isplitl [HcO2]; · iexact HcO2
    isplitl [HO] <;> iassumption
  iintro ⟨HO, HzO2, Ho2, Hst2⟩
  iapply (wait_out m K c 3 1 rfl _ rfl) $$ [HO HcO3 HaO3]
  · isplitr; · iexact HR
    isplitr; · iexact Hlev
    isplitl [HcO3]; · iexact HcO3
    isplitl [HO] <;> iassumption
  iintro ⟨HO, HzO3, Ho3, Hst3⟩
  iapply (wait_send m K c 0 _ rfl) $$ [HO HcS0 HaS0]
  · isplitr; · iexact HR
    isplitr; · iexact Hlev
    isplitl [HcS0]; · iexact HcS0
    isplitl [HO] <;> iassumption
  iintro ⟨HO, HzS0, Hh0⟩
  iapply (wait_send m K c 1 _ rfl) $$ [HO HcS1 HaS1]
  · isplitr; · iexact HR
    isplitr; · iexact Hlev
    isplitl [HcS1]; · iexact HcS1
    isplitl [HO] <;> iassumption
  iintro ⟨HO, HzS1, Hh1⟩
  rw [wp_ret]; imodintro
  iapply Hk
  isplitl [HO]; · iexact HO
  isplitl [HzO2]; · iexact HzO2
  isplitl [Ho2]; · iexact Ho2
  isplitl [Hst2]; · iexact Hst2
  isplitl [HzO3]; · iexact HzO3
  isplitl [Ho3]; · iexact Ho3
  isplitl [Hst3]; · iexact Hst3
  isplitl [HzS0]; · iexact HzS0
  isplitl [Hh0]; · iexact Hh0
  isplitl [HzS1]; · iexact HzS1
  iexact Hh1

end Cert.AllGather

end
-- ==== Proof.Body.lean ====
/-
The kernel of one device as a whole: from its positions, tokens and credits and its buffers, the run leaves the result
written and every semaphore at zero.
-/
module

public import proofs.«01_k».proof.Proof.Parts2

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from and ends with -/

/-- The device that pays the duty of DMA semaphore `k` device `c` holds the token of: a receive semaphore is the
    receiving device's, every other its own. -/
def payee (k : Fin 16) (c : Dev nD) : Dev nD :=
  if h : 6 ≤ k.val ∧ k.val < 12 then dest ⟨k.val - 6, by omega⟩ c else c

/-- Device `c`'s positions on its semaphores; -/
def pos (c : Dev nD) : sProp 𝕄 := iprop(atPos ER (barCell c) 0 ∅ 0 ∗ bigSep Finset.univ fun k : Fin 16 => atPos ER (dmaCell c k) 0 ∅ 0)
/-- the tokens of the duties it pays; -/
def payToks (c : Dev nD) : sProp 𝕄 :=
  iprop(dutyTok ER (barCell (prv c)) 0 true ∗ dutyTok ER (barCell (nxt c)) 0 false ∗ bigSep Finset.univ fun k : Fin 16 => dutyTok ER (dmaCell (payee k c) k) 0 false)
/-- what it is owed; -/
def creds (c : Dev nD) : sProp 𝕄 := iprop(cred (tallyAt (barCell c) () 2) ∗ bigSep Finset.univ fun i : Fin 6 => cred (tallyAt (recvCell c i) () N))
/-- its semaphores, all at zero. -/
def zeros (c : Dev nD) : sProp 𝕄 := iprop(semVal (barCell c) 0 ∗ bigSep Finset.univ fun k : Fin 16 => semVal (dmaCell c k) 0)

omit [FloatOps F] in
theorem at_eq (c : Dev nD) : (bigSep Finset.univ (fun k : Fin 16 => atPos ER (dmaCell c k) 0 ∅ 0) : sProp 𝕄)
    = iprop(atPos ER (sendCell c 0) 0 ∅ 0 ∗ atPos ER (sendCell c 1) 0 ∅ 0 ∗ atPos ER (sendCell c 2) 0 ∅ 0 ∗ atPos ER (sendCell c 3) 0 ∅ 0 ∗ atPos ER (sendCell c 4) 0 ∅ 0 ∗ atPos ER (sendCell c 5) 0 ∅ 0 ∗ atPos ER (recvCell c 0) 0 ∅ 0 ∗ atPos ER (recvCell c 1) 0 ∅ 0 ∗ atPos ER (recvCell c 2) 0 ∅ 0 ∗ atPos ER (recvCell c 3) 0 ∅ 0 ∗ atPos ER (recvCell c 4) 0 ∅ 0 ∗ atPos ER (recvCell c 5) 0 ∅ 0 ∗ atPos ER (outCell c 0) 0 ∅ 0 ∗ atPos ER (outCell c 1) 0 ∅ 0 ∗ atPos ER (outCell c 2) 0 ∅ 0 ∗ atPos ER (outCell c 3) 0 ∅ 0) := by
  rw [bigSep_univ_eq_bigSepL [0, 1, 2, 3, 4, 5, 6, 7, 8, 9, 10, 11, 12, 13, 14, 15] (by decide) (by decide)]; rfl
omit [FloatOps F] in
theorem toks_eq (c : Dev nD) : (bigSep Finset.univ (fun k : Fin 16 => dutyTok ER (dmaCell (payee k c) k) 0 false) : sProp 𝕄)
    = iprop(dutyTok ER (sendCell c 0) 0 false ∗ dutyTok ER (sendCell c 1) 0 false ∗ dutyTok ER (sendCell c 2) 0 false ∗ dutyTok ER (sendCell c 3) 0 false ∗ dutyTok ER (sendCell c 4) 0 false ∗ dutyTok ER (sendCell c 5) 0 false ∗ dutyTok ER (recvCell (dest 0 c) 0) 0 false ∗ dutyTok ER (recvCell (dest 1 c) 1) 0 false ∗ dutyTok ER (recvCell (dest 2 c) 2) 0 false ∗ dutyTok ER (recvCell (dest 3 c) 3) 0 false ∗ dutyTok ER (recvCell (dest 4 c) 4) 0 false ∗ dutyTok ER (recvCell (dest 5 c) 5) 0 false ∗ dutyTok ER (outCell c 0) 0 false ∗ dutyTok ER (outCell c 1) 0 false ∗ dutyTok ER (outCell c 2) 0 false ∗ dutyTok ER (outCell c 3) 0 false) := by
  rw [bigSep_univ_eq_bigSepL [0, 1, 2, 3, 4, 5, 6, 7, 8, 9, 10, 11, 12, 13, 14, 15] (by decide) (by decide)]; rfl
omit [FloatOps F] in
theorem zeros_eq (c : Dev nD) : (bigSep Finset.univ (fun k : Fin 16 => semVal (dmaCell c k) 0) : sProp 𝕄)
    = iprop(semVal (sendCell c 0) 0 ∗ semVal (sendCell c 1) 0 ∗ semVal (sendCell c 2) 0 ∗ semVal (sendCell c 3) 0 ∗ semVal (sendCell c 4) 0 ∗ semVal (sendCell c 5) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (outCell c 0) 0 ∗ semVal (outCell c 1) 0 ∗ semVal (outCell c 2) 0 ∗ semVal (outCell c 3) 0) := by
  rw [bigSep_univ_eq_bigSepL [0, 1, 2, 3, 4, 5, 6, 7, 8, 9, 10, 11, 12, 13, 14, 15] (by decide) (by decide)]; rfl
omit [FloatOps F] in
theorem creds_eq (c : Dev nD) : (bigSep Finset.univ (fun i : Fin 6 => cred (tallyAt (recvCell c i) () N)) : sProp 𝕄)
    = iprop(cred (tallyAt (recvCell c 0) () N) ∗ cred (tallyAt (recvCell c 1) () N) ∗ cred (tallyAt (recvCell c 2) () N) ∗ cred (tallyAt (recvCell c 3) () N) ∗ cred (tallyAt (recvCell c 4) () N) ∗ cred (tallyAt (recvCell c 5) () N)) := by
  rw [bigSep_univ_eq_bigSepL [0, 1, 2, 3, 4, 5] (by decide) (by decide)]; rfl

omit [FloatOps F] in
/-- A half slot of its own is the place a neighbour's copy fills. -/
theorem give_of (i : Fin 6) (d c : Dev nD) (h : dest i d = c) (f : Buf (Elt F) ((c : Thread nD τ).loc cc0_scratch0)) :
    halfPts c (dslot i) (half i) fullShare f ⊢ (give d i : sProp 𝕄) := by
  subst h; unfold give; iintro H; iexists f; iexact H

omit [FloatOps F] in
/-- The half slots 1 and the top of 3 go to the left neighbour; -/
theorem gives_prv (c : Dev nD) (f : Buf (Elt F) ((c : Thread nD τ).loc cc0_scratch0)) :
    iprop(halfPts c 1 0 fullShare f ∗ halfPts c 1 1 fullShare f ∗ halfPts c 3 0 fullShare f) ⊢ (barPayT (prv c) : sProp 𝕄) := by
  unfold barPayT
  iintro ⟨H0, H1, H2⟩
  isplitl [H0]; · iapply (give_of 0 (prv c) c (nxt_prv c) f); iexact H0
  isplitl [H1]; · iapply (give_of 1 (prv c) c (nxt_prv c) f); iexact H1
  iapply (give_of 4 (prv c) c (nxt_prv c) f); iexact H2
omit [FloatOps F] in
/-- the half slots 2 and the bottom of 3 to the right one. -/
theorem gives_nxt (c : Dev nD) (f : Buf (Elt F) ((c : Thread nD τ).loc cc0_scratch0)) :
    iprop(halfPts c 2 1 fullShare f ∗ halfPts c 2 0 fullShare f ∗ halfPts c 3 1 fullShare f) ⊢ (barPayF (nxt c) : sProp 𝕄) := by
  unfold barPayF
  iintro ⟨H0, H1, H2⟩
  isplitl [H0]; · iapply (give_of 2 (nxt c) c (prv_nxt c) f); iexact H0
  isplitl [H1]; · iapply (give_of 3 (nxt c) c (prv_nxt c) f); iexact H1
  iapply (give_of 5 (nxt c) c (prv_nxt c) f); iexact H2

omit [FloatOps F] in
/-- The communication buffer at entry: slot 0 stays, the others are handed to the neighbours. -/
theorem comm_entry (c : Dev nD) (f : Buf (Elt F) ((c : Thread nD τ).loc cc0_scratch0)) :
    ((c : Thread nD τ).loc cc0_scratch0 ↦{fullShare} (f : Buf (Elt F) ((c : Thread nD τ).loc cc0_scratch0)) : sProp 𝕄)
      ⊢ iprop(slotPts c 0 fullShare f ∗ barPayT (prv c) ∗ barPayF (nxt c)) := by
  rw [comm_slots]
  iintro ⟨H0, H1, H2, H3⟩
  ihave H1 := (slot_split c 1 fullShare f) $$ H1
  ihave H2 := (slot_split c 2 fullShare f) $$ H2
  ihave H3 := (slot_split c 3 fullShare f) $$ H3
  icases H1 with ⟨H10, H11⟩
  icases H2 with ⟨H20, H21⟩
  icases H3 with ⟨H30, H31⟩
  isplitl [H0]; · iexact H0
  isplitl [H10 H11 H30]
  · iapply (gives_prv c f)
    isplitl [H10]; · iexact H10
    isplitl [H11] <;> iassumption
  · iapply (gives_nxt c f)
    isplitl [H21]; · iexact H21
    isplitl [H20] <;> iassumption

omit [FloatOps F] in
/-- Slot 0's shares: one half lent to the copies to the right, a quarter to those to the left, a quarter kept; -/
theorem own_split (c : Dev nD) (f : Buf (Elt F) ((c : Thread nD τ).loc cc0_scratch0)) :
    slotPts c 0 fullShare f ⊢ (iprop(halfPts c 0 0 (sh 0) f ∗ halfPts c 0 1 (sh 1) f ∗ halfPts c 0 0 (sh 3) f ∗ halfPts c 0 1 (sh 2) f
      ∗ slotPts c 0 fullShare.right.right f) : sProp 𝕄) := by
  iintro H
  ihave H := (slot_share c 0 fullShare f) $$ H
  icases H with ⟨HL, HR⟩
  ihave HR := (slot_share c 0 fullShare.right f) $$ HR
  icases HR with ⟨HRL, HRR⟩
  ihave HL := (slot_split c 0 fullShare.left f) $$ HL
  icases HL with ⟨HL0, HL1⟩
  ihave HRL := (slot_split c 0 fullShare.right.left f) $$ HRL
  icases HRL with ⟨H0, H1⟩
  isplitl [HL0]; · iexact HL0
  isplitl [HL1]; · iexact HL1
  isplitl [H0]; · iexact H0
  isplitl [H1]; · iexact H1
  iexact HRR
omit [FloatOps F] in
/-- and together again. -/
theorem own_join (c : Dev nD) (f : Buf (Elt F) ((c : Thread nD τ).loc cc0_scratch0)) :
    (iprop(halfPts c 0 0 (sh 0) f ∗ halfPts c 0 1 (sh 1) f ∗ halfPts c 0 0 (sh 3) f ∗ halfPts c 0 1 (sh 2) f
      ∗ slotPts c 0 fullShare.right.right f) : sProp 𝕄) ⊢ slotPts c 0 fullShare f := by
  iintro ⟨HL0, HL1, H0, H1, HRR⟩
  iapply (slot_unshare c 0 fullShare f)
  isplitl [HL0 HL1]
  · iapply (slot_join c 0 fullShare.left f)
    isplitl [HL0]; · iexact HL0
    iexact HL1
  · iapply (slot_unshare c 0 fullShare.right f)
    isplitl [H0 H1]
    · iapply (slot_join c 0 fullShare.right.left f)
      isplitl [H0]; · iexact H0
      iexact H1
    · iexact HRR
omit [FloatOps F] in
/-- A slot whose left share comes in halves. -/
theorem mid_join (c : Dev nD) (s : Fin 4) (f : Buf (Elt F) ((c : Thread nD τ).loc cc0_scratch0)) :
    (iprop(halfPts c s 0 fullShare.left f ∗ halfPts c s 1 fullShare.left f ∗ slotPts c s fullShare.right f) : sProp 𝕄) ⊢ slotPts c s fullShare f := by
  iintro ⟨H0, H1, HR⟩
  iapply (slot_unshare c s fullShare f)
  isplitl [H0 H1]
  · iapply (slot_join c s fullShare.left f)
    isplitl [H0] <;> iassumption
  · iexact HR

/-! ## The run -/

/-- The whole kernel on device `c`. -/
theorem run_body (K : Dev nD × Fin 17 → ℕ) (c : Dev nD) (f0 : Buf (Elt F) ((c : Thread nD τ).loc cc0_scratch0))
    (g0 : Buf (Elt F) ((c : Thread nD τ).loc cc0_scratch1)) (fd : Buf (Elt F) ((c : Thread nD τ).loc main_v1)) {Q : PUnit → sProp 𝕄} :
    iprop(records m K ∗ levAts L lv ∗ pos c ∗ payToks c ∗ creds c ∗ ow c (O₀ c) ∗ aPts m c ∗ bPts m c
        ∗ ((c : Thread nD τ).loc cc0_scratch0 ↦{fullShare} f0) ∗ ((c : Thread nD τ).loc cc0_scratch1 ↦{fullShare} g0) ∗ ((c : Thread nD τ).loc main_v1 ↦{fullShare} fd))
      ⊢ iprop(((ow c 0 ∗ aPts m c ∗ bPts m c ∗ zeros c
          ∗ (∃ f : Buf (Elt F) ((c : Thread nD τ).loc cc0_scratch0), (c : Thread nD τ).loc cc0_scratch0 ↦{fullShare} f)
          ∗ (∃ f : Buf (Elt F) ((c : Thread nD τ).loc cc0_scratch1), (c : Thread nD τ).loc cc0_scratch1 ↦{fullShare} f)
          ∗ (c : Thread nD τ).loc main_v1 ↦{fullShare} (outF m c : Buf (Elt F) ((c : Thread nD τ).loc main_v1))) -∗ Q ⟨⟩)
        -∗ wp frame (wpE (defs₀ (F := F)) 𝒱₀ (c : Thread nD τ) none) Set.univ (cc0_body aM (Memref.isWhole_whole _) bM (Memref.isWhole_whole _) oM (Memref.isWhole_whole _) cM (Memref.isWhole_whole _) tM (Memref.isWhole_whole _) cc0_scratch2 cc0_scratch3 cc0_scratch4) Q) := by
  simp only [cc0_body_eq_skeleton]; unfold cc0_body_skel
  simp only [k0_part10_eq_skeleton]; unfold k0_part10_skel
  simp only [Prog.lift, Prog.bind_op, Prog.bind_ret, Prog.pure_eq_ret, Prog.bind_assoc]
  unfold pos payToks creds
  rw [at_eq, toks_eq, creds_eq]
  iintro ⟨#HR, #Hlev, ⟨HaB, HaS0, HaS1, HaS2, HaS3, HaS4, HaS5, HaR0, HaR1, HaR2, HaR3, HaR4, HaR5, HaO0, HaO1, HaO2, HaO3⟩, ⟨HtP, HtN, HtS0, HtS1, HtS2, HtS3, HtS4, HtS5, HtR0, HtR1, HtR2, HtR3, HtR4, HtR5, HtO0, HtO1, HtO2, HtO3⟩, ⟨HcB, HcR0, HcR1, HcR2, HcR3, HcR4, HcR5⟩, HO, Ha, Hb, Hcomm, Hstage, Hout⟩ Hk
  ihave Hcomm := (comm_entry c f0) $$ Hcomm
  icases Hcomm with ⟨Hs0, HpT, HpF⟩
  ihave Hstage := (Entails.of_eq (stage_slots c g0)) $$ Hstage
  icases Hstage with ⟨Hg0, Hg1⟩
  ihave Hout := (Entails.of_eq (out_blocks c fd)) $$ Hout
  icases Hout with ⟨Ho0, Ho1, Ho2, Ho3⟩
  rw [wp_bind]
  iapply (run_part1 m c f0) $$ [Ha Hb Hs0]
  · isplitl [Ha]; · iexact Ha
    isplitl [Hb]; · iexact Hb
    iexact Hs0
  iintro %v2 %v13 %v24 ⟨Ha, Hb, Hs0⟩
  ihave Hs0 := (own_split c (commF m c)) $$ Hs0
  icases Hs0 with ⟨Hh0, Hh1, Hh3, Hh2, Hs0⟩
  dsimp only
  rw [wp_bind]
  iapply (run_part2 m K c v13 v24 _) $$ [HO HtP HtN HpT HpF HcB HaB Hh0 HtS0 HtR0 Hh2 HtS2 HtR2]
  · isplitr; · iexact HR
    isplitr; · iexact Hlev
    isplitl [HO]; · iexact HO
    isplitl [HtP]; · iexact HtP
    isplitl [HtN]; · iexact HtN
    isplitl [HpT]; · iexact HpT
    isplitl [HpF]; · iexact HpF
    isplitl [HcB]; · iexact HcB
    isplitl [HaB]; · iexact HaB
    isplitl [Hh0]; · iexact Hh0
    isplitl [HtS0]; · iexact HtS0
    isplitl [HtR0]; · iexact HtR0
    isplitl [Hh2]; · iexact Hh2
    isplitl [HtS2]; · iexact HtS2
    iexact HtR2
  iintro %r2 ⟨HO, HzB, Hg1', Hg3', Hg4', Hg5', HcS0, HcS2⟩
  rw [wp_bind]
  iapply (run_part3 m K c fullShare.right.right v2 v13 v24 _) $$ [HO Hg1' Hg3' Hh1 HtS1 HtR1 Hh3 HtS3 HtR3 Hs0 Hg0]
  · isplitr; · iexact HR
    isplitl [HO]; · iexact HO
    isplitl [Hg1']; · iexact Hg1'
    isplitl [Hg3']; · iexact Hg3'
    isplitl [Hh1]; · iexact Hh1
    isplitl [HtS1]; · iexact HtS1
    isplitl [HtR1]; · iexact HtR1
    isplitl [Hh3]; · iexact Hh3
    isplitl [HtS3]; · iexact HtS3
    isplitl [HtR3]; · iexact HtR3
    isplitl [Hs0]; · iexact Hs0
    unfold free; iexists g0; iexact Hg0
  iintro ⟨HO, HcS1, HcS3, Hs0, Hrd⟩
  rw [wp_bind]
  iapply (run_part4 m K c v13 v24 fd) $$ [HO Hrd Ho0 HtO0 HcR0 HaR0 Hg4' HtS4 HtR4]
  · isplitr; · iexact HR
    isplitr; · iexact Hlev
    isplitl [HO]; · iexact HO
    isplitl [Hrd]; · iexact Hrd
    isplitl [Ho0]; · iexact Ho0
    isplitl [HtO0]; · iexact HtO0
    isplitl [HcR0]; · iexact HcR0
    isplitl [HaR0]; · iexact HaR0
    isplitl [Hg4']; · iexact Hg4'
    isplitl [HtS4]; · iexact HtS4
    iexact HtR4
  iintro ⟨HO, HcO0, HzR0, HvR, HcS4⟩
  rw [wp_bind]
  iapply (run_part5 m K c v13 v24) $$ [HO HcR2 HaR2 Hg5' HtS5 HtR5 HcR1 HaR1 HvR Hg1]
  · isplitr; · iexact HR
    isplitr; · iexact Hlev
    isplitl [HO]; · iexact HO
    isplitl [HcR2]; · iexact HcR2
    isplitl [HaR2]; · iexact HaR2
    isplitl [Hg5']; · iexact Hg5'
    isplitl [HtS5]; · iexact HtS5
    isplitl [HtR5]; · iexact HtR5
    isplitl [HcR1]; · iexact HcR1
    isplitl [HaR1]; · iexact HaR1
    isplitl [HvR]; · iexact HvR
    unfold free; iexists g0; iexact Hg1
  iintro %r5 ⟨HO, HzR2, HzR1, HcS5, Hv2R, Hv1L, Hs1, Hrd⟩
  rw [wp_bind]
  iapply (run_part6 m K c v13 v24 _ fd) $$ [HO Hrd Ho1 HtO1 HcR3 HaR3 HcO0 HaO0 Hv2R]
  · isplitr; · iexact HR
    isplitr; · iexact Hlev
    isplitl [HO]; · iexact HO
    isplitl [Hrd]; · iexact Hrd
    isplitl [Ho1]; · iexact Ho1
    isplitl [HtO1]; · iexact HtO1
    isplitl [HcR3]; · iexact HcR3
    isplitl [HaR3]; · iexact HaR3
    isplitl [HcO0]; · iexact HcO0
    isplitl [HaO0]; · iexact HaO0
    iexact Hv2R
  iintro ⟨HO, HcO1, HzR3, HzO0, Ho0, Hv3L, Hs2, Hrd⟩
  rw [wp_bind]
  iapply (run_part7 m K c v2 v24 fd) $$ [HO Hrd Ho2 HtO2 HcO1 HaO1 HcR4 HaR4]
  · isplitr; · iexact HR
    isplitr; · iexact Hlev
    isplitl [HO]; · iexact HO
    isplitl [Hrd]; · iexact Hrd
    isplitl [Ho2]; · iexact Ho2
    isplitl [HtO2]; · iexact HtO2
    isplitl [HcO1]; · iexact HcO1
    isplitl [HaO1]; · iexact HaO1
    isplitl [HcR4]; · iexact HcR4
    iexact HaR4
  iintro %r7 ⟨HO, HcO2, HzO1, Ho1, Hg1, HzR4, Hv4⟩
  rw [wp_bind]
  iapply (run_part8 m K c v13 _ fd) $$ [HO Hv4 Hg1 HcR5 HaR5 Ho3 HtO3]
  · isplitr; · iexact HR
    isplitr; · iexact Hlev
    isplitl [HO]; · iexact HO
    isplitl [Hv4]; · iexact Hv4
    isplitl [Hg1]; · iexact Hg1
    isplitl [HcR5]; · iexact HcR5
    isplitl [HaR5]; · iexact HaR5
    isplitl [Ho3]; · iexact Ho3
    iexact HtO3
  iintro ⟨HO, HzR5, Hv4, Hv5, HcO3⟩
  rw [wp_bind]
  iapply (run_part9 m K c) $$ [HO HcO2 HaO2 HcO3 HaO3 HcS0 HaS0 HcS1 HaS1]
  · isplitr; · iexact HR
    isplitr; · iexact Hlev
    isplitl [HO]; · iexact HO
    isplitl [HcO2]; · iexact HcO2
    isplitl [HaO2]; · iexact HaO2
    isplitl [HcO3]; · iexact HcO3
    isplitl [HaO3]; · iexact HaO3
    isplitl [HcS0]; · iexact HcS0
    isplitl [HaS0]; · iexact HaS0
    isplitl [HcS1]; · iexact HcS1
    iexact HaS1
  iintro ⟨HO, HzO2, Ho2, Hg0, HzO3, Ho3, Hg1, HzS0, Hh0, HzS1, Hh1⟩
  iapply (wait_send m K c 3 _ rfl) $$ [HcS3 HO HaS3]
  · isplitr; · iexact HR
    isplitr; · iexact Hlev
    isplitl [HcS3]; · iexact HcS3
    isplitl [HO]; · iexact HO
    iexact HaS3
  iintro ⟨HO, HzS3, Hh3⟩
  iapply (wait_send m K c 2 _ rfl) $$ [HcS2 HO HaS2]
  · isplitr; · iexact HR
    isplitr; · iexact Hlev
    isplitl [HcS2]; · iexact HcS2
    isplitl [HO]; · iexact HO
    iexact HaS2
  iintro ⟨HO, HzS2, Hh2⟩
  iapply (wait_send m K c 4 _ rfl) $$ [HcS4 HO HaS4]
  · isplitr; · iexact HR
    isplitr; · iexact Hlev
    isplitl [HcS4]; · iexact HcS4
    isplitl [HO]; · iexact HO
    iexact HaS4
  iintro ⟨HO, HzS4, Hh4⟩
  iapply (wait_send m K c 5 _ rfl) $$ [HcS5 HO HaS5]
  · isplitr; · iexact HR
    isplitr; · iexact Hlev
    isplitl [HcS5]; · iexact HcS5
    isplitl [HO]; · iexact HO
    iexact HaS5
  iintro ⟨HO, HzS5, Hh5⟩
  rw [wp_ret]; imodintro
  iapply Hk
  isplitl [HO]; · iexact HO
  isplitl [Ha]; · iexact Ha
  isplitl [Hb]; · iexact Hb
  isplitl [HzB HzS0 HzS1 HzS2 HzS3 HzS4 HzS5 HzR0 HzR1 HzR2 HzR3 HzR4 HzR5 HzO0 HzO1 HzO2 HzO3]
  · unfold zeros; rw [zeros_eq]
    isplitl [HzB]; · iexact HzB
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    isplitl [HzO0]; · iexact HzO0
    isplitl [HzO1]; · iexact HzO1
    isplitl [HzO2]; · iexact HzO2
    iexact HzO3
  isplitl [Hh0 Hh1 Hh2 Hh3 Hs0 Hh4 Hv1L Hs1 Hh5 Hv3L Hs2 Hv4 Hv5]
  · iexists (commF m c)
    rw [comm_slots]
    isplitl [Hh0 Hh1 Hh2 Hh3 Hs0]
    · iapply (own_join c (commF m c))
      isplitl [Hh0]; · iexact Hh0
      isplitl [Hh1]; · iexact Hh1
      isplitl [Hh3]; · iexact Hh3
      isplitl [Hh2]; · iexact Hh2
      iexact Hs0
    isplitl [Hh4 Hv1L Hs1]
    · iapply (mid_join c 1 (commF m c))
      isplitl [Hh4]; · iexact Hh4
      isplitl [Hv1L]; · iexact Hv1L
      iexact Hs1
    isplitl [Hh5 Hv3L Hs2]
    · iapply (mid_join c 2 (commF m c))
      isplitl [Hv3L]; · iexact Hv3L
      isplitl [Hh5]; · iexact Hh5
      iexact Hs2
    iapply (slot_join c 3 fullShare (commF m c))
    isplitl [Hv4] <;> iassumption
  isplitl [Hg0 Hg1]
  · unfold free; iapply (stage_join c)
    isplitl [Hg0]
    · iexact Hg0
    · iexact Hg1
  rw [out_blocks]
  isplitl [Ho0]; · iexact Ho0
  isplitl [Ho1]; · iexact Ho1
  isplitl [Ho2] <;> iassumption

end Cert.AllGather

end
-- ==== Proof.Obligation.lean ====
/-
The launch's data on one device, and the library's obligation on the kernel's body, from the run of the whole kernel.
-/
module

public import proofs.«01_k».proof.Proof.Body

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The ghost state of device `c`. -/
def ghost (c : Dev nD) : sProp 𝕄 := iprop(∃ K : Dev nD × Fin 17 → ℕ, records m K ∗ pos c ∗ payToks c)

/-- What device `c`'s body starts from besides its scratch buffers. -/
def start (c : Dev nD) : sProp 𝕄 :=
  iprop(ghost m c ∗ levAts L lv ∗ creds c ∗ ((c : Thread nD τ).loc main_v1 ↦{fullShare} (m ((c : Thread nD τ).loc main_v1))))

/-- The two scratch buffers, at some contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))

/-- Before the body; -/
def Φ₀ (c : Dev nD) : sProp 𝕄 := iprop(start m c ∗ scratch c)
/-- after it: the result written and every semaphore at zero. -/
def Φ₁ (c : Dev nD) : sProp 𝕄 :=
  iprop(zeros c ∗ ((c : Thread nD τ).loc main_v1 ↦{fullShare} (outF m c : Buf (Elt F) ((c : Thread nD τ).loc main_v1))) ∗ scratch c)

/-- The launch's data on device `c`. -/
def dats (_ : Fin 1) (c : Dev nD) : Dat τ (Elt F) Unit ℕ UU ℕ cfg0 c where
  A w := m ((cfg0.win w).arr.view.loc (c : Thread nD τ))
  after w _ := match w with
    | ⟨0, _⟩ => blkA m c
    | ⟨1, _⟩ => blkB m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The grid's only point. -/
abbrev t₀ : Fin cfg0.N := t0_0

omit [FloatOps F] in
theorem fin_N (t : Fin cfg0.N) : t = t₀ := fin_N0 t

omit [FloatOps F] in
theorem bigSep_W (Φ : Fin cfg0.W → sProp 𝕄) : bigSep Finset.univ Φ = iprop(Φ (0 : Fin 2) ∗ Φ (1 : Fin 2)) := bigSep_W0 Φ

theorem fetch_a (t : Fin cfg0.N) : (cfg0.win (0 : Fin 2)).fetch t = true := by rw [fin_N t]; rfl
theorem fetch_b (t : Fin cfg0.N) : (cfg0.win (1 : Fin 2)).fetch t = true := by rw [fin_N t]; rfl

omit [FloatOps F] in
/-- Owning a whole buffer through its memref. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of a window, holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (blkA m c) ∗ stg c cc0_stg1_0 (blkB m c))

/-- The kernel from what the launch hands its body to what the launch takes back. -/
theorem sound_body (c : Dev nD) :
    bodyPre m c ⊢ wp frame (wpE (defs₀ (F := F)) 𝒱₀ (c : Thread nD τ) none) Set.univ
      (cc0_body aM (Memref.isWhole_whole _) bM (Memref.isWhole_whole _) oM (Memref.isWhole_whole _) cM (Memref.isWhole_whole _)
        tM (Memref.isWhole_whole _) cc0_scratch2 cc0_scratch3 cc0_scratch4) (fun _ => bodyPost m c) := by
  unfold bodyPre Φ₀ start ghost scratch
  iintro ⟨⟨⟨⟨%K, HR, Hpos, Htok⟩, Hlev, Hcr, Hv⟩, ⟨%f0, Hs0⟩, ⟨%g0, Hs1⟩⟩, Ho, ⟨%d0, %x0, %hx0, Hx⟩, ⟨%d1, %y0, %hy0, Hy⟩⟩
  have hx : x0 = blkA m c := by rw [hx0]; unfold Dat.before; rw [if_pos (fetch_a t₀)]; rfl
  have hy : y0 = blkB m c := by rw [hy0]; unfold Dat.before; rw [if_pos (fetch_b t₀)]; rfl
  subst hx; subst hy
  unfold Dat.owesAt Pipeline.owesWithin
  icases Ho with ⟨%W, %hW, HO⟩
  rw [show (dats m 0 c).owed t₀.castSucc = O₀ c from rfl]
  iapply (run_body m K c f0 g0 (m ((c : Thread nD τ).loc main_v1))) $$ [HR Hpos Htok Hlev Hcr Hv Hs0 Hs1 HO Hx Hy]
  · isplitl [HR]; · iexact HR
    isplitl [Hlev]; · iexact Hlev
    isplitl [Hpos]; · iexact Hpos
    isplitl [Htok]; · iexact Htok
    isplitl [Hcr]; · iexact Hcr
    isplitl [HO]; · unfold ow; iexists W; iexact HO
    isplitl [Hx]; · unfold aPts; iexact Hx
    isplitl [Hy]; · unfold bPts; iexact Hy
    isplitl [Hs0]; · iexact Hs0
    isplitl [Hs1]; · iexact Hs1
    iexact Hv
  iintro ⟨HO, Hx, Hy, Hz, Hs0, Hs1, Hv⟩
  unfold bodyPost Φ₁ scratch Dat.owesAt Pipeline.owesWithin
  rw [show (dats m 0 c).owed t₀.succ = 0 from rfl]
  isplitl [Hz Hs0 Hs1 Hv]
  · isplitl [Hz]; · iexact Hz
    isplitl [Hv]; · iexact Hv
    isplitl [Hs0]; · iexact Hs0
    iexact Hs1
  isplitl [HO]
  · unfold ow
    icases HO with ⟨%W', HO⟩
    iexists W'
    isplitr; · ipureintro; exact fun _ _ => Or.inl trivial
    iexact HO
  isplitl [Hx]
  · iexists _; isplitr; · (ipureintro; rfl)
    unfold aPts; iexact Hx
  iexists _; isplitr; · (ipureintro; rfl)
  unfold bPts; iexact Hy

set_option maxRecDepth 4000 in
/-- The library's obligation on the body of device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  exact sound_body m c

end Cert.AllGather

end
-- ==== Proof.Deal.lean ====
/-
The launch's ghost state: the semaphores' invariants are allocated, and every duty's token goes to the device that pays it.
-/
module

public import proofs.«01_k».proof.Proof.Obligation

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem ownSemFacts : Pipeline.OwnSemFacts cfg0.spec osem := by decide

theorem osem_injective : Function.Injective osem := by
  intro k k' h
  have h1 : k.val + 2 = k'.val + 2 := congrArg (fun s : SemLoc sig => match s with | .dma q => q.val | .reg _ => 0) h
  exact Fin.ext (by omega)

theorem csem_injective : Function.Injective csem := by
  intro k k' h
  refine Fin.cases (motive := fun k => csem k = csem k' → k = k') (fun h => ?_) (fun j h => ?_) k h
  · refine Fin.cases (motive := fun k' => csem 0 = csem k' → 0 = k') (fun _ => rfl) (fun j' h => ?_) k' h
    exact absurd (h : SemLoc.reg barS = osem j') (fun h => by cases h)
  · refine Fin.cases (motive := fun k' => csem j.succ = csem k' → j.succ = k') (fun h => ?_) (fun j' h => ?_) k' h
    · exact absurd (h : osem j = SemLoc.reg barS) (fun h => by cases h)
    · exact congrArg Fin.succ (osem_injective (h : osem j = osem j'))

theorem kcell_injective : Function.Injective (kcell : Dev nD × Fin 17 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The semaphores the kernels synchronise on. -/
def ringCells : Finset (GSem nD τ sig) := Finset.univ.map ⟨kcell, kcell_injective⟩

/-- The duties of a device's semaphores: two of its barrier, one of each other. -/
abbrev tokOf (cj : Dev nD × (Bool ⊕ Fin 16)) : GSem nD τ sig × ℕ × Bool := match cj.2 with
  | .inl b => (barCell cj.1, 0, b)
  | .inr k => (dmaCell cj.1 k, 0, false)

theorem tokOf_injective : Function.Injective tokOf := by
  rintro ⟨c, j⟩ ⟨c', j'⟩ h
  have h1 : c = c' := by
    have := congrArg (fun x : GSem nD τ sig × ℕ × Bool => x.1.1.1) h
    rcases j with b | k <;> rcases j' with b' | k' <;> exact this
  subst h1
  rcases j with b | k <;> rcases j' with b' | k'
  · rw [show b = b' from congrArg (fun x : GSem nD τ sig × ℕ × Bool => x.2.2) h]
  · exact absurd (congrArg (fun x : GSem nD τ sig × ℕ × Bool => x.1.2) h : SemLoc.reg barS = osem k') (fun h => by cases h)
  · exact absurd (congrArg (fun x : GSem nD τ sig × ℕ × Bool => x.1.2) h : osem k = SemLoc.reg barS) (fun h => by cases h)
  · rw [osem_injective (congrArg (fun x : GSem nD τ sig × ℕ × Bool => x.1.2) h : osem k = osem k')]

def ringToks : Finset (GSem nD τ sig × ℕ × Bool) := Finset.univ.map ⟨tokOf, tokOf_injective⟩

/-- The launch's ghost element. -/
def u₀ : UU := (initOf (Pipeline.cells cfgs cellOf_inj) (Pipeline.launchToks cfgs cellOf_inj), initOf ringCells ringToks)

/-- The tokens of the duties of device `c`'s own semaphores. -/
def toks (c : Dev nD) : sProp 𝕄 :=
  iprop((dutyTok ER (barCell c) 0 true ∗ dutyTok ER (barCell c) 0 false) ∗ bigSep Finset.univ fun k : Fin 16 => dutyTok ER (dmaCell c k) 0 false)

/-- What the launch element deals device `c`. -/
def G (c : Dev nD) : sProp 𝕄 :=
  iprop((bigSep Finset.univ fun k : Fin 17 => roundState ER (ringRd m) (kcell (c, k)) 0)
    ∗ (bigSep Finset.univ fun k : Fin 17 => iprop(atPos ER (kcell (c, k)) 0 ∅ 0 ∗ reached ER (kcell (c, k)) 0)) ∗ toks c)

omit [FloatOps F] in
/-- A device's barrier, then its DMA semaphores. -/
theorem cells_split (c : Dev nD) (Φ : GSem nD τ sig → sProp 𝕄) :
    (bigSep Finset.univ fun k : Fin 17 => Φ (kcell (c, k))) = iprop(Φ (barCell c) ∗ bigSep Finset.univ fun k : Fin 16 => Φ (dmaCell c k)) := by
  rw [Fin.univ_succ, Finset.cons_eq_insert, bigSep_insert (by simp [Fin.succ_ne_zero]), bigSep_map]
  rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_eq_bigSepL (I := Bool) [true, false] (by decide) (by decide)]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The DMA semaphores of the kernel are its own; -/
theorem ownSems0_eq (c : Dev nD) : (Pipeline.ownSems0 (Ix := Unit) (Name := ℕ) (U := UU) (Lvl := ℕ) (Val := Elt F) (τ := τ) osem c : sProp 𝕄)
    = bigSep Finset.univ fun k : Fin 16 => semVal (dmaCell c k) 0 := rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (cells_split (F := F) c fun g => semVal g 0).symm) $$ [Hos Hus]
  · isplitl [Hus]
    · iapply (Entails.of_eq (unscopedSems0_eq (F := F) c)); iexact Hus
    · iapply (Entails.of_eq (ownSems0_eq (F := F) c)); iexact Hos
  imod (show iprop((bigSep Finset.univ fun k : Fin 17 => semVal (kcell (c, k)) 0) ∗ bigSep Finset.univ fun k : Fin 17 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The device that holds the token of the duty of device `c`'s DMA semaphore `k`. -/
def payor (k : Fin 16) (c : Dev nD) : Dev nD :=
  if h : 6 ≤ k.val ∧ k.val < 12 then orig ⟨k.val - 6, by omega⟩ c else c

theorem payor_payee (k : Fin 16) (c : Dev nD) : payor k (payee k c) = c := by
  unfold payor payee; split
  · exact orig_dest _ c
  · rfl
theorem payee_payor (k : Fin 16) (c : Dev nD) : payee k (payor k c) = c := by
  unfold payor payee; split
  · exact dest_orig _ c
  · rfl

/-- Who pays what, as a permutation. -/
def dealing : Dev nD × Fin 16 ≃ Dev nD × Fin 16 where
  toFun ck := (payee ck.2 ck.1, ck.2)
  invFun ck := (payor ck.2 ck.1, ck.2)
  left_inv ck := Prod.ext (payor_payee ck.2 ck.1) rfl
  right_inv ck := Prod.ext (payee_payor ck.2 ck.1) rfl

theorem dealing_apply (c : Dev nD) (k : Fin 16) : dealing (c, k) = (payee k c, k) := rfl

omit [FloatOps F] in
/-- The tokens of the DMA semaphores' duties, dealt out. -/
theorem deal_dma : (bigSep Finset.univ fun c : Dev nD => bigSep Finset.univ fun k : Fin 16 => (dutyTok ER (dmaCell c k) 0 false : sProp 𝕄))
    = bigSep Finset.univ fun c : Dev nD => bigSep Finset.univ fun k : Fin 16 => dutyTok ER (dmaCell (payee k c) k) 0 false := by
  rw [← bigSep_univ_prod (fun ck : Dev nD × Fin 16 => (dutyTok ER (dmaCell ck.1 ck.2) 0 false : sProp 𝕄)),
    bigSep_univ_equiv dealing (fun ck : Dev nD × Fin 16 => (dutyTok ER (dmaCell ck.1 ck.2) 0 false : sProp 𝕄)), bigSep_univ_prod]
  simp only [dealing_apply]

omit [FloatOps F] in
/-- A barrier's two tokens, dealt to its two neighbours. -/
theorem deal_bar (b : Bool) (e : Dev nD ≃ Dev nD) (f : Dev nD → Dev nD) (h : ∀ c, e c = f c) :
    (bigSep Finset.univ fun c : Dev nD => (dutyTok ER (barCell c) 0 b : sProp 𝕄)) = bigSep Finset.univ fun c : Dev nD => dutyTok ER (barCell (f c)) 0 b := by
  rw [bigSep_univ_equiv e (fun c : Dev nD => (dutyTok ER (barCell c) 0 b : sProp 𝕄))]
  simp only [h]

omit [FloatOps F] in
/-- The tokens go to the devices that pay the duties. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_bar true ring.symm prv fun _ => rfl, deal_bar false ring nxt fun _ => rfl, deal_dma]
  iintro ⟨⟨H1, H2⟩, H3⟩
  isplitl [H1]; · iexact H1
  isplitl [H2]; · iexact H2
  iexact H3

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Fin 17 => iprop(∃ κ : ℕ, cellInv ER (ringRd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (ringRd m) κ (kcell ck) : sProp 𝕄))) $$ HI
  icases HK with ⟨%K, #HI⟩
  ihave Htk := (toks_around (F := F)) $$ Htok
  iapply (bigSep_with_persistent (R := records m K) (Φ := fun c => iprop(pos c ∗ payToks c)) fun c _ => by
    unfold ghost
    iintro ⟨H1, H2⟩
    iexists K
    isplitl [H1] <;> iassumption)
  isplitr
  · unfold records; isplitl; · iexact HI
    iexact HR
  · iapply (Entails.of_eq (bigSep_sep' Finset.univ (fun c : Dev nD => (pos c : sProp 𝕄)) payToks).symm)
    isplitl [Hat]
    · iapply (Entails.of_eq (bigSep_congr (s := Finset.univ) fun (c : Dev nD) _ => cells_split (F := F) c fun g => atPos ER g 0 ∅ 0))
      iexact Hat
    iexact Htk

/-- The step from the semaphores of all devices at zero to every device's ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

end Cert.AllGather

end
-- ==== Proof.Credit.lean ====
/-
What the devices owe each other at the start, summed per semaphore: each barrier two units, each receive semaphore one
half slot.
-/
module

public import proofs.«01_k».proof.Proof.Deal

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem recv_ne_bar (i : Fin 6) : (SemLoc.dma (recvS i) : SemLoc sig) ≠ .reg barS := fun h => by cases h

theorem recvS_injective : Function.Injective fun i : Fin 6 => (SemLoc.dma (recvS i) : SemLoc sig) := by
  intro i j h
  have h1 : i.val + 8 = j.val + 8 := congrArg (fun s : SemLoc sig => match s with | .dma q => q.val | .reg _ => 0) h
  exact Fin.ext (by omega)

/-- What device `d` owes a semaphore, term by term. -/
theorem owed_eq (d : Dev nD) (g : GSem nD τ sig) :
    O₀ d g () = (∑ i : Fin 6, T i d g ()) + (tallyAt (barCell (nxt d)) () 1 : CellTallies nD τ sig Unit) g ()
      + (tallyAt (barCell (prv d)) () 1 : CellTallies nD τ sig Unit) g () := by
  unfold O₀ OB OT0 OT2 OT1 OT3 OT4 OT5
  simp only [Pi.add_apply, Finsupp.add_apply, Pi.zero_apply, Finsupp.zero_apply, Fin.sum_univ_six]
  omega

theorem T_recv (i j : Fin 6) (d c : Dev nD) : T i d (recvCell c j) () = if i = j then (if d = orig j c then N else 0) else 0 := by
  unfold T
  rw [tallyAt_apply]
  by_cases h : i = j
  · subst h
    rw [if_pos rfl]
    by_cases h' : d = orig i c
    · subst h'; rw [dest_orig, if_pos ⟨rfl, rfl⟩, if_pos rfl]
    · rw [if_neg h', if_neg]
      rintro ⟨h1, _⟩
      have h2 : c = dest i d := congrArg (fun g : GSem nD τ sig => g.1.1) h1
      exact h' (by rw [h2, orig_dest])
  · rw [if_neg h, if_neg]
    rintro ⟨h1, _⟩
    exact h (recvS_injective (congrArg Prod.snd h1 : (SemLoc.dma (recvS j) : SemLoc sig) = .dma (recvS i))).symm

theorem T_bar (i : Fin 6) (d c : Dev nD) : T i d (barCell c) () = 0 := by
  unfold T
  rw [tallyAt_apply, if_neg]
  rintro ⟨h1, _⟩
  exact recv_ne_bar i (congrArg Prod.snd h1).symm

theorem bar_recv (e c : Dev nD) (j : Fin 6) : (tallyAt (barCell e) () 1 : CellTallies nD τ sig Unit) (recvCell c j) () = 0 := by
  rw [tallyAt_apply, if_neg]
  rintro ⟨h1, _⟩
  exact recv_ne_bar j (congrArg Prod.snd h1)

theorem bar_bar (e c : Dev nD) : (tallyAt (barCell e) () 1 : CellTallies nD τ sig Unit) (barCell c) () = if e = c then 1 else 0 := by
  rw [tallyAt_apply]
  by_cases h : e = c
  · subst h; rw [if_pos ⟨rfl, rfl⟩, if_pos rfl]
  · rw [if_neg h, if_neg]
    rintro ⟨h1, _⟩
    exact h (congrArg (fun g : GSem nD τ sig => g.1.1) h1).symm

theorem launch_recv (c : Dev nD) (j : Fin 6) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same]
  have h (d : Dev nD) : O₀ d (recvCell c j) () = if d = orig j c then N else 0 := by
    rw [owed_eq, bar_recv, bar_recv]
    simp only [T_recv]
    rw [Finset.sum_ite_eq' Finset.univ j fun _ => if d = orig j c then N else 0, if_pos (Finset.mem_univ _), Nat.add_zero]
  rw [Finset.sum_congr rfl fun d _ => h d, Finset.sum_ite_eq' Finset.univ (orig j c) fun _ => N, if_pos (Finset.mem_univ _)]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  have h (d : Dev nD) : O₀ d (barCell c) () = (if d = prv c then 1 else 0) + (if d = nxt c then 1 else 0) := by
    rw [owed_eq, bar_bar, bar_bar]
    simp only [T_bar, Finset.sum_const_zero, Nat.zero_add]
    congr 1
    · exact if_congr ⟨fun h => by rw [← h, prv_nxt], fun h => by rw [h, nxt_prv]⟩ rfl rfl
    · exact if_congr ⟨fun h => by rw [← h, nxt_prv], fun h => by rw [h, prv_nxt]⟩ rfl rfl
  rw [Finset.sum_congr rfl fun d _ => h d, Finset.sum_add_distrib, Finset.sum_ite_eq' Finset.univ (prv c) fun _ => 1,
    Finset.sum_ite_eq' Finset.univ (nxt c) fun _ => 1, if_pos (Finset.mem_univ _), if_pos (Finset.mem_univ _)]

omit [FloatOps F] in
/-- The credit of device `c` at launch. -/
theorem creds_intro (c : Dev nD) : (Pipeline.launchCred O₀ c : sProp 𝕄) ⊢ creds c := by
  unfold Pipeline.launchCred creds
  rw [bigSep_univ_at _ (SemLoc.reg barS), launch_bar]
  refine BIClass.sep_mono (BI.Entails.refl _) ?_
  refine BIBase.Entails.trans (bigSep_subset (t := Finset.univ.map ⟨fun i : Fin 6 => (SemLoc.dma (recvS i) : SemLoc sig), recvS_injective⟩) fun sm hsm => ?_) ?_
  · obtain ⟨i, -, rfl⟩ := Finset.mem_map.mp hsm
    exact Finset.mem_erase.mpr ⟨recv_ne_bar i, Finset.mem_univ _⟩
  · rw [bigSep_map]
    exact bigSep_mono fun i _ => Entails.of_eq (congrArg cred (launch_recv c i))

end Cert.AllGather

end
-- ==== Proof.Launch.lean ====
/-
The run of the whole program on the ring of devices: it ends, every device's result holds what `outF` says, the arguments
are as they were, and every semaphore is at zero.
-/
module

public import proofs.«01_k».proof.Proof.Credit
public import Idealize.ShloMosaic.Lib.Pipeline.CollectiveSegs

@[expose] public section

set_option maxHeartbeats 400000

noncomputable section

namespace Cert.AllGather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  rw [Pipeline.unscopedRestP_none, show cfg0.spec = spec0 from rfl, unscopedRest0_eq]
  iintro ⟨Hv, Hlev, Hcr, -, HG⟩
  ihave Hc := (creds_intro (F := F) c) $$ Hcr
  imodintro
  unfold start
  isplitl
  · isplitl [HG]; · iexact HG
    isplitl [Hlev]; · iexact Hlev
    isplitl [Hc]; · iexact Hc
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀ scratch
  iintro ⟨Hs, -, Hr⟩
  isplitl [Hs]; · iexact Hs
  iexact Hr

/-- What is left of device `c` at the end besides its arrays: its result, and its barrier at zero. -/
def leftover (c : Dev nD) : sProp 𝕄 :=
  iprop(((c : Thread nD τ).loc main_v1 ↦{fullShare} (outF m c : Buf (Elt F) ((c : Thread nD τ).loc main_v1))) ∗ unscopedSems0 c)

theorem phi1_exit (c : Dev nD) :
    (dats m 0 c).Φ (Fin.last cfg0.N) ⊢ iprop(leftover m c ∗ Pipeline.ownSems0 osem c ∗ Pipeline.scopedRest cfg0.spec c) := by
  rw [show (dats m 0 c).Φ (Fin.last cfg0.N) = Φ₁ m c from rfl, show cfg0.spec = spec0 from rfl, scopedRest0_eq, ownSems0_eq]
  unfold Φ₁ scratch zeros leftover
  rw [unscopedSems0_eq]
  iintro ⟨⟨HzB, Hz⟩, Hv, Hr⟩
  isplitl [Hv HzB]
  · isplitl [Hv]; · iexact Hv
    iexact HzB
  isplitl [Hz]; · iexact Hz
  iexact Hr

/-- The result and the barrier, read against the machine's state. -/
theorem leftover_read (c : Dev nD) (s' : Phys nD τ sig (Elt F)) :
    iprop(leftover m c ∗ emp ∗ SI s') ⊢ |={Set.univ}=> iprop(⌜s'.mem.mem ((c : Thread nD τ).loc main_v1) = outF m c
      ∧ ∀ sm : SemLoc sig, sm.isScoped .tc = false → s'.mem.sem ((c.tc : Thread nD τ), sm) = 0⌝ ∗ SI s') := by
  unfold leftover
  iintro ⟨⟨Hv, Hu⟩, -, HSI⟩
  icombine HSI Hv gives %hv
  imod (Pipeline.unscopedSems0_read (X := unscopedSems0 c) (c := c) fupd_intro s') $$ [Hu HSI] with ⟨%hz, HSI⟩
  · isplitl [Hu] <;> iassumption
  imodintro
  isplitr; · ipureintro; exact ⟨Buf.eq_of_forall_mem_univ hv, hz⟩
  iexact HSI

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

set_option maxRecDepth 8000 in
/-- The run. -/
theorem run_main : θ_run defs (onTc (τ := τ) (main (F := F))) ⟨m, fun _ => 0, ρ⟩ (fun r =>
    (∀ c : Dev nD, r.2.mem ((c : Thread nD τ).loc main_v1) = outF m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c)) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := leftover m) (Z := fun _ => iprop(emp))
    (hX := start_intro m ρ) (hin := phi0_intro m) (hout := phi1_exit m)
    (QY := fun c s => s.mem ((c : Thread nD τ).loc main_v1) = outF m c
      ∧ ∀ sm : SemLoc sig, sm.isScoped .tc = false → s.sem ((c.tc : Thread nD τ), sm) = 0)
    (hY := leftover_read m)
    (hQ := fun _ h hs => ⟨fun c => ⟨(h c).2.2.1, ((h c).1 (0 : Fin 2)).trans ((dats (F := F) m 0 c).arrAt_in (0 : Fin 2) rfl _),
        ((h c).1 (1 : Fin 2)).trans ((dats (F := F) m 0 c).arrAt_in (1 : Fin 2) rfl _)⟩,
      sem_eq_zero hs fun c => (h c).2.2.2⟩)

end Cert.AllGather

end
-- ==== Proof.Value.lean ====
/-
The value of the kernel's result over the extended reals.

A row block of the result is the product of its owner's block of `A` with `B`, whether the kernel computed it in one
piece or in two halves. Row `r` of the result comes from the device that holds row `r` of `A`, so the four row
blocks together are the product of the whole `A` with `B`, which is what the reference computes.
-/
module

public import proofs.«01_k».proof.Proof.Ring
public import proofs.«01_k».proof.Proof.Gen.ReferenceIdeal.Run
public import Idealize.ShloMosaic.Lib.StackMember
public import Idealize.ShloMosaic.Lib.MatmulPlain
public import Idealize.ShloMosaic.Lib.Layout
public import Idealize.ShloMosaic.PureOps.Ideal.Laws

@[expose] public section

noncomputable section

namespace Cert.AllGather

open Cert.KernelIdeal Cert.KernelIdeal.Gen
open Idealize.ShloMosaic Idealize.ShloMosaic.TcCoe

/-- The dimension numbers of the three products are those of a plain matrix product. -/
theorem dotV_plain : dot_S1536x768_S768x1536_S1536x1536_1_0_0_1_n_n = DotDims.plain 1536 768 1536 := rfl
theorem dotH_plain : dot_S768x768_S768x1536_S768x1536_1_0_0_1_n_n = DotDims.plain 768 768 1536 := rfl
theorem dotR_plain : Cert.ReferenceIdeal.dot_S6144x768_S768x1536_S6144x1536_1_0_0_1_n_n = DotDims.plain 6144 768 1536 := rfl

/-- A whole slot's product, entry by entry. -/
theorem prodV_apply (a : FVec Ideal S1x1536x768 .bf16) (b : FVec Ideal S768x1536 .bf16) (r : Fin 1536) (q : Fin 1536) :
    prodV a b (ix3 (n0 := 1) (n1 := 1536) (n2 := 1536) 0 r q)
      = ∑ k : Fin 768, a (ix3 (n0 := 1) (n1 := 1536) (n2 := 768) 0 r k) * b (ix2 (n0 := 768) (n1 := 1536) k q) := by
  unfold prodV k0_pay3 k0_pay2
  refine (ValueIdx.shapeCast_ab_1ab_apply (a := 1536) (b := 1536) _ _ 0 r q).trans ?_
  refine (Ideal.matmul_plain_apply (M := 1536) (K := 768) (N := 1536) none _ _ _ r q).trans ?_
  refine (congrArg (· + _) Ideal.ofBits_zero_f32).trans ((zero_add _).trans (Finset.sum_congr rfl fun k _ => ?_))
  exact congr (congrArg HMul.hMul (ValueIdx.shapeCast_1ab_ab_apply (a := 1536) (b := 768) _ _ r k)) (congrFun (shapeCast_self _ _) _)

/-- A half slot's product, entry by entry. -/
theorem prodH_apply (a : FVec Ideal S1x768x768 .bf16) (b : FVec Ideal S768x1536 .bf16) (r : Fin 768) (q : Fin 1536) :
    prodH a b (ix3 (n0 := 1) (n1 := 768) (n2 := 1536) 0 r q)
      = ∑ k : Fin 768, a (ix3 (n0 := 1) (n1 := 768) (n2 := 768) 0 r k) * b (ix2 (n0 := 768) (n1 := 1536) k q) := by
  unfold prodH k0_pay6 k0_pay2
  refine (ValueIdx.shapeCast_ab_1ab_apply (a := 768) (b := 1536) _ _ 0 r q).trans ?_
  refine (Ideal.matmul_plain_apply (M := 768) (K := 768) (N := 1536) none _ _ _ r q).trans ?_
  refine (congrArg (· + _) Ideal.ofBits_zero_f32).trans ((zero_add _).trans (Finset.sum_congr rfl fun k _ => ?_))
  exact congr (congrArg HMul.hMul (ValueIdx.shapeCast_1ab_ab_apply (a := 768) (b := 768) _ _ r k)) (congrFun (shapeCast_self _ _) _)

/-- The reference's result, entry by entry. -/
theorem ref_apply (A : FVec Ideal ⟨2, ![6144, 768]⟩ .bf16) (B : FVec Ideal ⟨2, ![768, 1536]⟩ .bf16) (r : Fin 6144) (q : Fin 1536)
    (h : FTy.bits .bf16 < FTy.bits .f32) :
    (truncf .bf16 (Host.dotGeneral Cert.ReferenceIdeal.dot_S6144x768_S768x1536_S6144x1536_1_0_0_1_n_n none A B) h : FVec Ideal ⟨2, ![6144, 1536]⟩ .bf16)
        (ix2 (n0 := 6144) (n1 := 1536) r q)
      = ∑ k : Fin 768, A (ix2 (n0 := 6144) (n1 := 768) r k) * B (ix2 (n0 := 768) (n1 := 1536) k q) := by
  rw [dotR_plain]
  exact StackMember.dotGeneral_plain_apply none A B r q

variable (m : (ℓ : Loc nD τ sig) → Buf (Elt Ideal) ℓ)

/-- Device `c`'s block of `A` and its copy of `B`, as arrays of numbers. -/
def arrA (c : Dev nD) : FVec Ideal ⟨2, ![1536, 768]⟩ .bf16 := m ((c : Thread nD τ).loc main_arg0)
def arrB (c : Dev nD) : FVec Ideal ⟨2, ![768, 1536]⟩ .bf16 := m ((c : Thread nD τ).loc main_arg1)

/-- The blocks the kernel stages are the whole arrays. -/
theorem blkA_eq (c : Dev nD) : blkA m c = arrA m c := by
  funext j
  refine congrArg (m ((c : Thread nD τ).loc main_arg0)) (funext fun a => Fin.ext ?_)
  exact Pipeline.Window.rect_emb_val_of_index_zero win0_0 (0 : Fin 1) a rfl j
theorem blkB_eq (c : Dev nD) : blkB m c = arrB m c := by
  funext j
  refine congrArg (m ((c : Thread nD τ).loc main_arg1)) (funext fun a => Fin.ext ?_)
  exact Pipeline.Window.rect_emb_val_of_index_zero win0_1 (0 : Fin 1) a rfl j

/-- Row block `s` of the result is its owner's block of `A` times `B`. -/
theorem resV_apply (c : Dev nD) (s : Fin 4) (r q : Fin 1536) :
    resV m c s (ix2 (n0 := 1536) (n1 := 1536) r q)
      = ∑ k : Fin 768, arrA m (owner c s) (ix2 (n0 := 1536) (n1 := 768) r k) * arrB m c (ix2 (n0 := 768) (n1 := 1536) k q) := by
  by_cases hs : s = 3
  · subst hs
    by_cases h : r.val < 768
    · refine (congrFun (if_pos rfl) _).trans ((dif_pos h).trans ((prodH_apply _ _ _ _).trans (Finset.sum_congr rfl fun k _ => ?_)))
      rw [blkB_eq]
      refine congrArg (· * _) ((congrFun (blkA_eq m (owner c 3)) _).trans
        (congrArg (arrA m (owner c 3)) (congrArg (fun i => ix2 (n0 := 1536) (n1 := 768) i k) (Fin.ext ?_))))
      show 768 * 0 + r.val = r.val; omega
    · refine (congrFun (if_pos rfl) _).trans ((dif_neg h).trans ((prodH_apply _ _ _ _).trans (Finset.sum_congr rfl fun k _ => ?_)))
      rw [blkB_eq]
      refine congrArg (· * _) ((congrFun (blkA_eq m (owner c 3)) _).trans
        (congrArg (arrA m (owner c 3)) (congrArg (fun i => ix2 (n0 := 1536) (n1 := 768) i k) (Fin.ext ?_))))
      show 768 * 1 + (r.val - 768) = r.val; omega
  · refine (congrFun (if_neg hs) _).trans ((prodV_apply _ _ _ _).trans (Finset.sum_congr rfl fun k _ => ?_))
    rw [blkB_eq]
    exact congrArg (· * _) (congrFun (blkA_eq m (owner c s)) _)

/-- Where device `d`'s `A` is rows `1536 d` to `1536 d + 1535` of `A` and every `B` is `B`, the kernel's result is the
    reference's. -/
theorem outF_eq (A : FVec Ideal ⟨2, ![6144, 768]⟩ .bf16) (B : FVec Ideal ⟨2, ![768, 1536]⟩ .bf16)
    (hA : ∀ d : Dev nD, arrA m d = Layout.block ⟨2, ![1536, 768]⟩ ⟨2, ![6144, 768]⟩ 0 4 d A)
    (hB : ∀ d : Dev nD, arrB m d = B) (c : Dev nD) (h : FTy.bits .bf16 < FTy.bits .f32) :
    outF m c = (truncf .bf16 (Host.dotGeneral Cert.ReferenceIdeal.dot_S6144x768_S768x1536_S6144x1536_1_0_0_1_n_n none A B) h
      : FVec Ideal ⟨2, ![6144, 1536]⟩ .bf16) := by
  funext (i : S6144x1536.Idx)
  have e : i = ix2 (n0 := 6144) (n1 := 1536) (i 0) (i 1) := eq_ix2 i
  refine Eq.trans ?_ ((congrArg _ e).trans (ref_apply A B (i 0) (i 1) h)).symm
  refine (resV_apply m c _ _ _).trans (Finset.sum_congr rfl fun k _ => ?_)
  rw [owner_slotOf, hA, hB]
  refine congrArg (· * _) (congrArg A ?_)
  funext a
  apply Fin.ext
  match a with
  | ⟨0, _⟩ => show (i 0).val / 1536 * 1536 + (i 0).val % 1536 = (i 0).val; omega
  | ⟨1, _⟩ => rfl

end Cert.AllGather

end
-- ==== Proof.lean ====
/-
The five claims about the ring matrix product, put together.

`Proof/Launch.lean` proves the run of the kernel's text over any float values: every device ends with the stated
result, its arguments unchanged and every semaphore at zero. Both frames of the kernel are that run with the result
dropped. `Proof/Value.lean` proves that over the extended reals the stated result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Lib.Tactic
public import Idealize.ShloMosaic.Adequacy
public import Idealize.ShloMosaic.Init

@[expose] public section

noncomputable section

namespace Cert.Proof

open Idealize.ShloMosaic Idealize.SL.Sem Cert.Kernel

/-- The idealized text, read at words, keeps its arguments and leaves every semaphore at zero. -/
def FrameWords : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame_words : FrameWords := fun m g _ =>
  (θ_run Cert.KernelIdeal.defs _ _).mono (fun _ h => ⟨fun c => (h.1 c).2, h.2⟩) (Cert.AllGather.run_main (F := Bits) m g)

/-- The kernel's text is the idealized text, so the two statements are one. -/
theorem frame_same : FrameWords = Cert.quiescent_Kernel (hKernel := Cert.Kernel.Gen.facts) := by sl_kernel_rfl

/-- The kernel runs, keeps its arguments and leaves every semaphore at zero: at words, -/
theorem frame_kernel : Cert.quiescent_Kernel (hKernel := Cert.Kernel.Gen.facts) := frame_same.mp frame_words

/-- and over the extended reals. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩) (Cert.AllGather.run_main (F := Ideal) m g)

/-- The reference runs and keeps its arguments; it has no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- Every device's result is the reference's product of the whole `A` with `B`. -/
theorem value : Cert.algebraic_KernelIdeal_ReferenceIdeal (hKernelIdeal := Cert.KernelIdeal.Gen.facts)
    (hReferenceIdeal := Cert.ReferenceIdeal.Gen.facts) := fun m g m' g' _ hio =>
  ⟨_, (θ_run Cert.KernelIdeal.defs _ _).mono (fun _ h c =>
      ⟨(h.1 c).1.trans (Cert.AllGather.outF_eq m _ _ (fun d => (hio d).1) (fun d => (hio d).2) c (by decide)), (h.1 c).2⟩)
      (Cert.AllGather.run_main (F := Ideal) m g),
    (θ_run Cert.ReferenceIdeal.defs _ _).mono (fun _ h => h 0) (Cert.ReferenceIdeal.Value.run m' g')⟩

/-- The certificate's claim. -/
theorem claim : Cert.Claim := ⟨Cert.Kernel.Gen.facts, Cert.KernelIdeal.Gen.facts, Cert.ReferenceIdeal.Gen.facts,
  frame_kernel, frame_kernelIdeal, frame_reference, trivial, value⟩

end Cert.Proof

end
